-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v454)) (v1 : (c : Dev Cert.KernelIdeal.nD) → Buf (Elt Ideal) ((c.tc : Thread Cert.KernelIdeal.nD Cert.KernelIdeal.τ).loc Cert.KernelIdeal.main_v424_0)) (v2 : (c : Dev Cert.KernelIdeal.nD) → Buf (Elt Ideal) ((c.tc : Thread Cert.KernelIdeal.nD Cert.KernelIdeal.τ).loc Cert.KernelIdeal.main_v424_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v454) = v0 c
          ∧ r.2.mem ((c.tc : Thread Cert.KernelIdeal.nD Cert.KernelIdeal.τ).loc Cert.KernelIdeal.main_v424_0) = v1 c
          ∧ r.2.mem ((c.tc : Thread Cert.KernelIdeal.nD Cert.KernelIdeal.τ).loc Cert.KernelIdeal.main_v424_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v11_7) = v1 c
          ∧ r.2.mem ((c.tc : Thread Cert.ReferenceIdeal.nD Cert.ReferenceIdeal.τ).loc Cert.ReferenceIdeal.main_v11_8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x20x3 : Shape := ⟨3, ![16384, 20, 3]⟩
abbrev S64x3 : Shape := ⟨2, ![64, 3]⟩
abbrev S64 : Shape := ⟨1, ![64]⟩
abbrev S512x64 : Shape := ⟨2, ![512, 64]⟩
abbrev S512x128 : Shape := ⟨2, ![512, 128]⟩
abbrev S512 : Shape := ⟨1, ![512]⟩
abbrev S5x128 : Shape := ⟨2, ![5, 128]⟩
abbrev S5 : Shape := ⟨1, ![5]⟩
abbrev S16384x20x1 : Shape := ⟨3, ![16384, 20, 1]⟩
abbrev S16384x20 : Shape := ⟨2, ![16384, 20]⟩
abbrev S_ : Shape := ⟨0, ![]⟩
abbrev S20x16384 : Shape := ⟨2, ![20, 16384]⟩
abbrev S20x1x16384 : Shape := ⟨3, ![20, 1, 16384]⟩
abbrev S1x512 : Shape := ⟨2, ![1, 512]⟩
abbrev S3x64 : Shape := ⟨2, ![3, 64]⟩
abbrev S16384x20x64 : Shape := ⟨3, ![16384, 20, 64]⟩
abbrev S1x1x64 : Shape := ⟨3, ![1, 1, 64]⟩
abbrev S16384x128 : Shape := ⟨2, ![16384, 128]⟩
abbrev S64x128 : Shape := ⟨2, ![64, 128]⟩
abbrev S16384x1x64 : Shape := ⟨3, ![16384, 1, 64]⟩
abbrev S16384x64 : Shape := ⟨2, ![16384, 64]⟩
abbrev S64x512 : Shape := ⟨2, ![64, 512]⟩
abbrev S16384x512 : Shape := ⟨2, ![16384, 512]⟩
abbrev S1x1x16384 : Shape := ⟨3, ![1, 1, 16384]⟩
abbrev S1x16384 : Shape := ⟨2, ![1, 16384]⟩
abbrev S4096x512 : Shape := ⟨2, ![4096, 512]⟩
abbrev S1x4096 : Shape := ⟨2, ![1, 4096]⟩
abbrev S4096x128 : Shape := ⟨2, ![4096, 128]⟩
abbrev S64x4096 : Shape := ⟨2, ![64, 4096]⟩
abbrev S128x5 : Shape := ⟨2, ![128, 5]⟩
abbrev S16384x5 : Shape := ⟨2, ![16384, 5]⟩
abbrev S1x5 : Shape := ⟨2, ![1, 5]⟩
abbrev S16384 : Shape := ⟨1, ![16384]⟩
abbrev S16384x1 : Shape := ⟨2, ![16384, 1]⟩
abbrev S1x16384x5 : Shape := ⟨3, ![1, 16384, 5]⟩
abbrev S16x16384x5 : Shape := ⟨3, ![16, 16384, 5]⟩
abbrev S4x16384x5 : Shape := ⟨3, ![4, 16384, 5]⟩
abbrev S20x16384x5 : Shape := ⟨3, ![20, 16384, 5]⟩
abbrev S16384x20x5 : Shape := ⟨3, ![16384, 20, 5]⟩

abbrev nBuf : Space → Nat
  | .hbm => 543
  | .vmem => 260
  | .smem => 0
  | _ => 0

abbrev hbmTy0_0 (i : Nat) : BufTy := match i % 128 with
  | 0 => ⟨S16384x20x3, .f32⟩
  | 1 => ⟨S64x3, .f32⟩
  | 2 => ⟨S64, .f32⟩
  | 3 => ⟨S512x64, .f32⟩
  | 4 => ⟨S512x128, .f32⟩
  | 5 => ⟨S512, .f32⟩
  | 6 => ⟨S512, .f32⟩
  | 7 => ⟨S5x128, .f32⟩
  | 8 => ⟨S5, .f32⟩
  | 9 => ⟨S16384x20x1, .f32⟩
  | 10 => ⟨S16384x20, .f32⟩
  | 11 => ⟨S_, .f32⟩
  | 12 => ⟨S_, .f32⟩
  | 13 => ⟨S_, .f32⟩
  | 14 => ⟨S16384x20, .f32⟩
  | 15 => ⟨S16384x20, .f32⟩
  | 16 => ⟨S_, .f32⟩
  | 17 => ⟨S16384x20, .f32⟩
  | 18 => ⟨S16384x20, .f32⟩
  | 19 => ⟨S16384x20x1, .f32⟩
  | 20 => ⟨S16384x20, .f32⟩
  | 21 => ⟨S_, .f32⟩
  | 22 => ⟨S_, .f32⟩
  | 23 => ⟨S_, .f32⟩
  | 24 => ⟨S16384x20, .f32⟩
  | 25 => ⟨S16384x20, .f32⟩
  | 26 => ⟨S_, .f32⟩
  | 27 => ⟨S16384x20, .f32⟩
  | 28 => ⟨S16384x20, .f32⟩
  | 29 => ⟨S_, .f32⟩
  | 30 => ⟨S16384x20, .f32⟩
  | 31 => ⟨S16384x20, .f32⟩
  | 32 => ⟨S_, .f32⟩
  | 33 => ⟨S16384x20, .f32⟩
  | 34 => ⟨S16384x20, .f32⟩
  | 35 => ⟨S16384x20, .f32⟩
  | 36 => ⟨S16384x20, .i32⟩
  | 37 => ⟨S_, .i32⟩
  | 38 => ⟨S_, .i32⟩
  | 39 => ⟨S_, .i32⟩
  | 40 => ⟨S16384x20, .i32⟩
  | 41 => ⟨S16384x20, .i32⟩
  | 42 => ⟨S_, .i32⟩
  | 43 => ⟨S16384x20, .i32⟩
  | 44 => ⟨S16384x20, .i32⟩
  | 45 => ⟨S_, .f32⟩
  | 46 => ⟨S16384x20, .f32⟩
  | 47 => ⟨S16384x20, .f32⟩
  | 48 => ⟨S_, .f32⟩
  | 49 => ⟨S16384x20, .f32⟩
  | 50 => ⟨S16384x20, .f32⟩
  | 51 => ⟨S16384x20, .f32⟩
  | 52 => ⟨S16384x20, .i32⟩
  | 53 => ⟨S_, .i32⟩
  | 54 => ⟨S_, .i32⟩
  | 55 => ⟨S_, .i32⟩
  | 56 => ⟨S16384x20, .i32⟩
  | 57 => ⟨S16384x20, .i32⟩
  | 58 => ⟨S_, .i32⟩
  | 59 => ⟨S16384x20, .i32⟩
  | 60 => ⟨S16384x20, .i32⟩
  | 61 => ⟨S_, .i32⟩
  | 62 => ⟨S16384x20, .i32⟩
  | 63 => ⟨S16384x20, .i32⟩
  | 64 => ⟨S16384x20, .i32⟩
  | 65 => ⟨S20x16384, .i32⟩
  | 66 => ⟨S20x1x16384, .i32⟩
  | 67 => ⟨S1x512, .f32⟩
  | 68 => ⟨S3x64, .f32⟩
  | 69 => ⟨S16384x20x64, .f32⟩
  | 70 => ⟨S1x1x64, .f32⟩
  | 71 => ⟨S16384x20x64, .f32⟩
  | 72 => ⟨S16384x20x64, .f32⟩
  | 73 => ⟨S_, .f32⟩
  | 74 => ⟨S16384x20x64, .f32⟩
  | 75 => ⟨S16384x20x64, .f32⟩
  | 76 => ⟨S_, .f32⟩
  | 77 => ⟨S16384x128, .f32⟩
  | 78 => ⟨S_, .f32⟩
  | 79 => ⟨S16384x128, .f32⟩
  | 80 => ⟨S_, .f32⟩
  | 81 => ⟨S64x128, .f32⟩
  | 82 => ⟨S16384x1x64, .f32⟩
  | 83 => ⟨S16384x64, .f32⟩
  | 84 => ⟨S64x512, .f32⟩
  | 85 => ⟨S16384x512, .f32⟩
  | 86 => ⟨S1x512, .f32⟩
  | 87 => ⟨S16384x512, .f32⟩
  | 88 => ⟨S16384x512, .f32⟩
  | 89 => ⟨S1x1x16384, .i32⟩
  | 90 => ⟨S1x16384, .i32⟩
  | 91 => ⟨S16384x128, .f32⟩
  | 92 => ⟨S16384x128, .f32⟩
  | 93 => ⟨S128x5, .f32⟩
  | 94 => ⟨S16384x5, .f32⟩
  | 95 => ⟨S1x5, .f32⟩
  | 96 => ⟨S16384x5, .f32⟩
  | 97 => ⟨S16384x5, .f32⟩
  | 98 => ⟨S1x16384, .i32⟩
  | 99 => ⟨S16384, .i32⟩
  | 100 => ⟨S_, .f32⟩
  | 101 => ⟨S64x128, .f32⟩
  | 102 => ⟨S16384x1, .i32⟩
  | 103 => ⟨S64x128, .f32⟩
  | 104 => ⟨S16384x1x64, .f32⟩
  | 105 => ⟨S16384x64, .f32⟩
  | 106 => ⟨S64x512, .f32⟩
  | 107 => ⟨S16384x512, .f32⟩
  | 108 => ⟨S1x512, .f32⟩
  | 109 => ⟨S16384x512, .f32⟩
  | 110 => ⟨S16384x512, .f32⟩
  | 111 => ⟨S1x1x16384, .i32⟩
  | 112 => ⟨S1x16384, .i32⟩
  | 113 => ⟨S16384x128, .f32⟩
  | 114 => ⟨S16384x128, .f32⟩
  | 115 => ⟨S128x5, .f32⟩
  | 116 => ⟨S16384x5, .f32⟩
  | 117 => ⟨S1x5, .f32⟩
  | 118 => ⟨S16384x5, .f32⟩
  | 119 => ⟨S16384x5, .f32⟩
  | 120 => ⟨S1x16384, .i32⟩
  | 121 => ⟨S16384, .i32⟩
  | 122 => ⟨S_, .f32⟩
  | 123 => ⟨S64x128, .f32⟩
  | 124 => ⟨S16384x1, .i32⟩
  | 125 => ⟨S64x128, .f32⟩
  | 126 => ⟨S16384x1x64, .f32⟩
  | 127 => ⟨S16384x64, .f32⟩
  | _ => ⟨S16384x20x3, .f32⟩

abbrev hbmTy0_1 (i : Nat) : BufTy := match i % 128 with
  | 0 => ⟨S64x512, .f32⟩
  | 1 => ⟨S16384x512, .f32⟩
  | 2 => ⟨S1x512, .f32⟩
  | 3 => ⟨S16384x512, .f32⟩
  | 4 => ⟨S16384x512, .f32⟩
  | 5 => ⟨S1x1x16384, .i32⟩
  | 6 => ⟨S1x16384, .i32⟩
  | 7 => ⟨S16384x128, .f32⟩
  | 8 => ⟨S16384x128, .f32⟩
  | 9 => ⟨S128x5, .f32⟩
  | 10 => ⟨S16384x5, .f32⟩
  | 11 => ⟨S1x5, .f32⟩
  | 12 => ⟨S16384x5, .f32⟩
  | 13 => ⟨S16384x5, .f32⟩
  | 14 => ⟨S1x16384, .i32⟩
  | 15 => ⟨S16384, .i32⟩
  | 16 => ⟨S_, .f32⟩
  | 17 => ⟨S64x128, .f32⟩
  | 18 => ⟨S16384x1, .i32⟩
  | 19 => ⟨S64x128, .f32⟩
  | 20 => ⟨S16384x1x64, .f32⟩
  | 21 => ⟨S16384x64, .f32⟩
  | 22 => ⟨S64x512, .f32⟩
  | 23 => ⟨S16384x512, .f32⟩
  | 24 => ⟨S1x512, .f32⟩
  | 25 => ⟨S16384x512, .f32⟩
  | 26 => ⟨S16384x512, .f32⟩
  | 27 => ⟨S1x1x16384, .i32⟩
  | 28 => ⟨S1x16384, .i32⟩
  | 29 => ⟨S16384x128, .f32⟩
  | 30 => ⟨S16384x128, .f32⟩
  | 31 => ⟨S128x5, .f32⟩
  | 32 => ⟨S16384x5, .f32⟩
  | 33 => ⟨S1x5, .f32⟩
  | 34 => ⟨S16384x5, .f32⟩
  | 35 => ⟨S16384x5, .f32⟩
  | 36 => ⟨S1x16384, .i32⟩
  | 37 => ⟨S16384, .i32⟩
  | 38 => ⟨S_, .f32⟩
  | 39 => ⟨S64x128, .f32⟩
  | 40 => ⟨S16384x1, .i32⟩
  | 41 => ⟨S64x128, .f32⟩
  | 42 => ⟨S16384x1x64, .f32⟩
  | 43 => ⟨S16384x64, .f32⟩
  | 44 => ⟨S64x512, .f32⟩
  | 45 => ⟨S16384x512, .f32⟩
  | 46 => ⟨S1x512, .f32⟩
  | 47 => ⟨S16384x512, .f32⟩
  | 48 => ⟨S16384x512, .f32⟩
  | 49 => ⟨S1x1x16384, .i32⟩
  | 50 => ⟨S1x16384, .i32⟩
  | 51 => ⟨S16384x128, .f32⟩
  | 52 => ⟨S16384x128, .f32⟩
  | 53 => ⟨S128x5, .f32⟩
  | 54 => ⟨S16384x5, .f32⟩
  | 55 => ⟨S1x5, .f32⟩
  | 56 => ⟨S16384x5, .f32⟩
  | 57 => ⟨S16384x5, .f32⟩
  | 58 => ⟨S1x16384, .i32⟩
  | 59 => ⟨S16384, .i32⟩
  | 60 => ⟨S_, .f32⟩
  | 61 => ⟨S64x128, .f32⟩
  | 62 => ⟨S16384x1, .i32⟩
  | 63 => ⟨S64x128, .f32⟩
  | 64 => ⟨S16384x1x64, .f32⟩
  | 65 => ⟨S16384x64, .f32⟩
  | 66 => ⟨S64x512, .f32⟩
  | 67 => ⟨S16384x512, .f32⟩
  | 68 => ⟨S1x512, .f32⟩
  | 69 => ⟨S16384x512, .f32⟩
  | 70 => ⟨S16384x512, .f32⟩
  | 71 => ⟨S1x1x16384, .i32⟩
  | 72 => ⟨S1x16384, .i32⟩
  | 73 => ⟨S16384x128, .f32⟩
  | 74 => ⟨S16384x128, .f32⟩
  | 75 => ⟨S128x5, .f32⟩
  | 76 => ⟨S16384x5, .f32⟩
  | 77 => ⟨S1x5, .f32⟩
  | 78 => ⟨S16384x5, .f32⟩
  | 79 => ⟨S16384x5, .f32⟩
  | 80 => ⟨S1x16384, .i32⟩
  | 81 => ⟨S16384, .i32⟩
  | 82 => ⟨S_, .f32⟩
  | 83 => ⟨S64x128, .f32⟩
  | 84 => ⟨S16384x1, .i32⟩
  | 85 => ⟨S64x128, .f32⟩
  | 86 => ⟨S16384x1x64, .f32⟩
  | 87 => ⟨S16384x64, .f32⟩
  | 88 => ⟨S64x512, .f32⟩
  | 89 => ⟨S16384x512, .f32⟩
  | 90 => ⟨S1x512, .f32⟩
  | 91 => ⟨S16384x512, .f32⟩
  | 92 => ⟨S16384x512, .f32⟩
  | 93 => ⟨S1x1x16384, .i32⟩
  | 94 => ⟨S1x16384, .i32⟩
  | 95 => ⟨S16384x128, .f32⟩
  | 96 => ⟨S16384x128, .f32⟩
  | 97 => ⟨S128x5, .f32⟩
  | 98 => ⟨S16384x5, .f32⟩
  | 99 => ⟨S1x5, .f32⟩
  | 100 => ⟨S16384x5, .f32⟩
  | 101 => ⟨S16384x5, .f32⟩
  | 102 => ⟨S1x16384, .i32⟩
  | 103 => ⟨S16384, .i32⟩
  | 104 => ⟨S_, .f32⟩
  | 105 => ⟨S64x128, .f32⟩
  | 106 => ⟨S16384x1, .i32⟩
  | 107 => ⟨S64x128, .f32⟩
  | 108 => ⟨S16384x1x64, .f32⟩
  | 109 => ⟨S16384x64, .f32⟩
  | 110 => ⟨S64x512, .f32⟩
  | 111 => ⟨S16384x512, .f32⟩
  | 112 => ⟨S1x512, .f32⟩
  | 113 => ⟨S16384x512, .f32⟩
  | 114 => ⟨S16384x512, .f32⟩
  | 115 => ⟨S1x1x16384, .i32⟩
  | 116 => ⟨S1x16384, .i32⟩
  | 117 => ⟨S16384x128, .f32⟩
  | 118 => ⟨S16384x128, .f32⟩
  | 119 => ⟨S128x5, .f32⟩
  | 120 => ⟨S16384x5, .f32⟩
  | 121 => ⟨S1x5, .f32⟩
  | 122 => ⟨S16384x5, .f32⟩
  | 123 => ⟨S16384x5, .f32⟩
  | 124 => ⟨S1x16384, .i32⟩
  | 125 => ⟨S16384, .i32⟩
  | 126 => ⟨S_, .f32⟩
  | 127 => ⟨S64x128, .f32⟩
  | _ => ⟨S16384x20x3, .f32⟩

abbrev hbmTy0_2 (i : Nat) : BufTy := match i % 128 with
  | 0 => ⟨S16384x1, .i32⟩
  | 1 => ⟨S64x128, .f32⟩
  | 2 => ⟨S16384x1x64, .f32⟩
  | 3 => ⟨S16384x64, .f32⟩
  | 4 => ⟨S64x512, .f32⟩
  | 5 => ⟨S16384x512, .f32⟩
  | 6 => ⟨S1x512, .f32⟩
  | 7 => ⟨S16384x512, .f32⟩
  | 8 => ⟨S16384x512, .f32⟩
  | 9 => ⟨S1x1x16384, .i32⟩
  | 10 => ⟨S1x16384, .i32⟩
  | 11 => ⟨S16384x128, .f32⟩
  | 12 => ⟨S16384x128, .f32⟩
  | 13 => ⟨S128x5, .f32⟩
  | 14 => ⟨S16384x5, .f32⟩
  | 15 => ⟨S1x5, .f32⟩
  | 16 => ⟨S16384x5, .f32⟩
  | 17 => ⟨S16384x5, .f32⟩
  | 18 => ⟨S1x16384, .i32⟩
  | 19 => ⟨S16384, .i32⟩
  | 20 => ⟨S_, .f32⟩
  | 21 => ⟨S64x128, .f32⟩
  | 22 => ⟨S16384x1, .i32⟩
  | 23 => ⟨S64x128, .f32⟩
  | 24 => ⟨S16384x1x64, .f32⟩
  | 25 => ⟨S16384x64, .f32⟩
  | 26 => ⟨S64x512, .f32⟩
  | 27 => ⟨S16384x512, .f32⟩
  | 28 => ⟨S1x512, .f32⟩
  | 29 => ⟨S16384x512, .f32⟩
  | 30 => ⟨S16384x512, .f32⟩
  | 31 => ⟨S1x1x16384, .i32⟩
  | 32 => ⟨S1x16384, .i32⟩
  | 33 => ⟨S16384x128, .f32⟩
  | 34 => ⟨S16384x128, .f32⟩
  | 35 => ⟨S128x5, .f32⟩
  | 36 => ⟨S16384x5, .f32⟩
  | 37 => ⟨S1x5, .f32⟩
  | 38 => ⟨S16384x5, .f32⟩
  | 39 => ⟨S16384x5, .f32⟩
  | 40 => ⟨S1x16384, .i32⟩
  | 41 => ⟨S16384, .i32⟩
  | 42 => ⟨S_, .f32⟩
  | 43 => ⟨S64x128, .f32⟩
  | 44 => ⟨S16384x1, .i32⟩
  | 45 => ⟨S64x128, .f32⟩
  | 46 => ⟨S16384x1x64, .f32⟩
  | 47 => ⟨S16384x64, .f32⟩
  | 48 => ⟨S64x512, .f32⟩
  | 49 => ⟨S16384x512, .f32⟩
  | 50 => ⟨S1x512, .f32⟩
  | 51 => ⟨S16384x512, .f32⟩
  | 52 => ⟨S16384x512, .f32⟩
  | 53 => ⟨S1x1x16384, .i32⟩
  | 54 => ⟨S1x16384, .i32⟩
  | 55 => ⟨S16384x128, .f32⟩
  | 56 => ⟨S16384x128, .f32⟩
  | 57 => ⟨S128x5, .f32⟩
  | 58 => ⟨S16384x5, .f32⟩
  | 59 => ⟨S1x5, .f32⟩
  | 60 => ⟨S16384x5, .f32⟩
  | 61 => ⟨S16384x5, .f32⟩
  | 62 => ⟨S1x16384, .i32⟩
  | 63 => ⟨S16384, .i32⟩
  | 64 => ⟨S_, .f32⟩
  | 65 => ⟨S64x128, .f32⟩
  | 66 => ⟨S16384x1, .i32⟩
  | 67 => ⟨S64x128, .f32⟩
  | 68 => ⟨S16384x1x64, .f32⟩
  | 69 => ⟨S16384x64, .f32⟩
  | 70 => ⟨S64x512, .f32⟩
  | 71 => ⟨S16384x512, .f32⟩
  | 72 => ⟨S1x512, .f32⟩
  | 73 => ⟨S16384x512, .f32⟩
  | 74 => ⟨S16384x512, .f32⟩
  | 75 => ⟨S1x1x16384, .i32⟩
  | 76 => ⟨S1x16384, .i32⟩
  | 77 => ⟨S16384x128, .f32⟩
  | 78 => ⟨S16384x128, .f32⟩
  | 79 => ⟨S128x5, .f32⟩
  | 80 => ⟨S16384x5, .f32⟩
  | 81 => ⟨S1x5, .f32⟩
  | 82 => ⟨S16384x5, .f32⟩
  | 83 => ⟨S16384x5, .f32⟩
  | 84 => ⟨S1x16384, .i32⟩
  | 85 => ⟨S16384, .i32⟩
  | 86 => ⟨S_, .f32⟩
  | 87 => ⟨S64x128, .f32⟩
  | 88 => ⟨S16384x1, .i32⟩
  | 89 => ⟨S64x128, .f32⟩
  | 90 => ⟨S16384x1x64, .f32⟩
  | 91 => ⟨S16384x64, .f32⟩
  | 92 => ⟨S64x512, .f32⟩
  | 93 => ⟨S16384x512, .f32⟩
  | 94 => ⟨S1x512, .f32⟩
  | 95 => ⟨S16384x512, .f32⟩
  | 96 => ⟨S16384x512, .f32⟩
  | 97 => ⟨S1x1x16384, .i32⟩
  | 98 => ⟨S1x16384, .i32⟩
  | 99 => ⟨S16384x128, .f32⟩
  | 100 => ⟨S16384x128, .f32⟩
  | 101 => ⟨S128x5, .f32⟩
  | 102 => ⟨S16384x5, .f32⟩
  | 103 => ⟨S1x5, .f32⟩
  | 104 => ⟨S16384x5, .f32⟩
  | 105 => ⟨S16384x5, .f32⟩
  | 106 => ⟨S1x16384, .i32⟩
  | 107 => ⟨S16384, .i32⟩
  | 108 => ⟨S_, .f32⟩
  | 109 => ⟨S64x128, .f32⟩
  | 110 => ⟨S16384x1, .i32⟩
  | 111 => ⟨S64x128, .f32⟩
  | 112 => ⟨S16384x1x64, .f32⟩
  | 113 => ⟨S16384x64, .f32⟩
  | 114 => ⟨S64x512, .f32⟩
  | 115 => ⟨S16384x512, .f32⟩
  | 116 => ⟨S1x512, .f32⟩
  | 117 => ⟨S16384x512, .f32⟩
  | 118 => ⟨S16384x512, .f32⟩
  | 119 => ⟨S1x1x16384, .i32⟩
  | 120 => ⟨S1x16384, .i32⟩
  | 121 => ⟨S16384x128, .f32⟩
  | 122 => ⟨S16384x128, .f32⟩
  | 123 => ⟨S128x5, .f32⟩
  | 124 => ⟨S16384x5, .f32⟩
  | 125 => ⟨S1x5, .f32⟩
  | 126 => ⟨S16384x5, .f32⟩
  | 127 => ⟨S16384x5, .f32⟩
  | _ => ⟨S16384x20x3, .f32⟩

abbrev hbmTy0_3 (i : Nat) : BufTy := match i % 128 with
  | 0 => ⟨S1x16384, .i32⟩
  | 1 => ⟨S16384, .i32⟩
  | 2 => ⟨S_, .f32⟩
  | 3 => ⟨S64x128, .f32⟩
  | 4 => ⟨S16384x1, .i32⟩
  | 5 => ⟨S64x128, .f32⟩
  | 6 => ⟨S16384x1x64, .f32⟩
  | 7 => ⟨S16384x64, .f32⟩
  | 8 => ⟨S64x512, .f32⟩
  | 9 => ⟨S16384x512, .f32⟩
  | 10 => ⟨S1x512, .f32⟩
  | 11 => ⟨S16384x512, .f32⟩
  | 12 => ⟨S16384x512, .f32⟩
  | 13 => ⟨S1x1x16384, .i32⟩
  | 14 => ⟨S1x16384, .i32⟩
  | 15 => ⟨S16384x128, .f32⟩
  | 16 => ⟨S16384x128, .f32⟩
  | 17 => ⟨S128x5, .f32⟩
  | 18 => ⟨S16384x5, .f32⟩
  | 19 => ⟨S1x5, .f32⟩
  | 20 => ⟨S16384x5, .f32⟩
  | 21 => ⟨S16384x5, .f32⟩
  | 22 => ⟨S1x16384, .i32⟩
  | 23 => ⟨S16384, .i32⟩
  | 24 => ⟨S_, .f32⟩
  | 25 => ⟨S64x128, .f32⟩
  | 26 => ⟨S16384x1, .i32⟩
  | 27 => ⟨S64x128, .f32⟩
  | 28 => ⟨S16384x1x64, .f32⟩
  | 29 => ⟨S16384x64, .f32⟩
  | 30 => ⟨S64x512, .f32⟩
  | 31 => ⟨S16384x512, .f32⟩
  | 32 => ⟨S1x512, .f32⟩
  | 33 => ⟨S16384x512, .f32⟩
  | 34 => ⟨S16384x512, .f32⟩
  | 35 => ⟨S1x1x16384, .i32⟩
  | 36 => ⟨S1x16384, .i32⟩
  | 37 => ⟨S16384x128, .f32⟩
  | 38 => ⟨S16384x128, .f32⟩
  | 39 => ⟨S128x5, .f32⟩
  | 40 => ⟨S16384x5, .f32⟩
  | 41 => ⟨S1x5, .f32⟩
  | 42 => ⟨S16384x5, .f32⟩
  | 43 => ⟨S16384x5, .f32⟩
  | 44 => ⟨S1x16384, .i32⟩
  | 45 => ⟨S16384, .i32⟩
  | 46 => ⟨S_, .f32⟩
  | 47 => ⟨S64x128, .f32⟩
  | 48 => ⟨S16384x1, .i32⟩
  | 49 => ⟨S64x128, .f32⟩
  | 50 => ⟨S16384x1x64, .f32⟩
  | 51 => ⟨S16384x64, .f32⟩
  | 52 => ⟨S64x512, .f32⟩
  | 53 => ⟨S16384x512, .f32⟩
  | 54 => ⟨S1x512, .f32⟩
  | 55 => ⟨S16384x512, .f32⟩
  | 56 => ⟨S16384x512, .f32⟩
  | 57 => ⟨S1x1x16384, .i32⟩
  | 58 => ⟨S1x16384, .i32⟩
  | 59 => ⟨S16384x128, .f32⟩
  | 60 => ⟨S16384x128, .f32⟩
  | 61 => ⟨S128x5, .f32⟩
  | 62 => ⟨S16384x5, .f32⟩
  | 63 => ⟨S1x5, .f32⟩
  | 64 => ⟨S16384x5, .f32⟩
  | 65 => ⟨S16384x5, .f32⟩
  | 66 => ⟨S1x16384, .i32⟩
  | 67 => ⟨S16384, .i32⟩
  | 68 => ⟨S_, .f32⟩
  | 69 => ⟨S64x128, .f32⟩
  | 70 => ⟨S16384x1, .i32⟩
  | 71 => ⟨S64x128, .f32⟩
  | 72 => ⟨S16384x1x64, .f32⟩
  | 73 => ⟨S16384x64, .f32⟩
  | 74 => ⟨S64x512, .f32⟩
  | 75 => ⟨S16384x512, .f32⟩
  | 76 => ⟨S1x512, .f32⟩
  | 77 => ⟨S16384x512, .f32⟩
  | 78 => ⟨S16384x512, .f32⟩
  | 79 => ⟨S1x1x16384, .i32⟩
  | 80 => ⟨S1x16384, .i32⟩
  | 81 => ⟨S16384x128, .f32⟩
  | 82 => ⟨S16384x128, .f32⟩
  | 83 => ⟨S128x5, .f32⟩
  | 84 => ⟨S16384x5, .f32⟩
  | 85 => ⟨S1x5, .f32⟩
  | 86 => ⟨S16384x5, .f32⟩
  | 87 => ⟨S16384x5, .f32⟩
  | 88 => ⟨S1x16384, .i32⟩
  | 89 => ⟨S16384, .i32⟩
  | 90 => ⟨S_, .f32⟩
  | 91 => ⟨S64x128, .f32⟩
  | 92 => ⟨S16384x1, .i32⟩
  | 93 => ⟨S64x128, .f32⟩
  | 94 => ⟨S16384x1x64, .f32⟩
  | 95 => ⟨S16384x64, .f32⟩
  | 96 => ⟨S64x512, .f32⟩
  | 97 => ⟨S16384x512, .f32⟩
  | 98 => ⟨S1x512, .f32⟩
  | 99 => ⟨S16384x512, .f32⟩
  | 100 => ⟨S16384x512, .f32⟩
  | 101 => ⟨S1x1x16384, .i32⟩
  | 102 => ⟨S1x16384, .i32⟩
  | 103 => ⟨S16384x128, .f32⟩
  | 104 => ⟨S16384x128, .f32⟩
  | 105 => ⟨S128x5, .f32⟩
  | 106 => ⟨S16384x5, .f32⟩
  | 107 => ⟨S1x5, .f32⟩
  | 108 => ⟨S16384x5, .f32⟩
  | 109 => ⟨S16384x5, .f32⟩
  | 110 => ⟨S1x16384, .i32⟩
  | 111 => ⟨S16384, .i32⟩
  | 112 => ⟨S_, .f32⟩
  | 113 => ⟨S64x128, .f32⟩
  | 114 => ⟨S16384x1, .i32⟩
  | 115 => ⟨S64x128, .f32⟩
  | 116 => ⟨S16384x1x64, .f32⟩
  | 117 => ⟨S16384x64, .f32⟩
  | 118 => ⟨S64x512, .f32⟩
  | 119 => ⟨S16384x512, .f32⟩
  | 120 => ⟨S1x512, .f32⟩
  | 121 => ⟨S16384x512, .f32⟩
  | 122 => ⟨S16384x512, .f32⟩
  | 123 => ⟨S1x1x16384, .i32⟩
  | 124 => ⟨S1x16384, .i32⟩
  | 125 => ⟨S16384x128, .f32⟩
  | 126 => ⟨S16384x128, .f32⟩
  | 127 => ⟨S128x5, .f32⟩
  | _ => ⟨S16384x20x3, .f32⟩

abbrev hbmTy0_4 (i : Nat) : BufTy := match i % 128 with
  | 0 => ⟨S16384x5, .f32⟩
  | 1 => ⟨S1x5, .f32⟩
  | 2 => ⟨S16384x5, .f32⟩
  | 3 => ⟨S16384x5, .f32⟩
  | 4 => ⟨S1x16384x5, .f32⟩
  | 5 => ⟨S1x16384x5, .f32⟩
  | 6 => ⟨S1x16384x5, .f32⟩
  | 7 => ⟨S1x16384x5, .f32⟩
  | 8 => ⟨S1x16384x5, .f32⟩
  | 9 => ⟨S1x16384x5, .f32⟩
  | 10 => ⟨S1x16384x5, .f32⟩
  | 11 => ⟨S1x16384x5, .f32⟩
  | 12 => ⟨S1x16384x5, .f32⟩
  | 13 => ⟨S1x16384x5, .f32⟩
  | 14 => ⟨S1x16384x5, .f32⟩
  | 15 => ⟨S1x16384x5, .f32⟩
  | 16 => ⟨S1x16384x5, .f32⟩
  | 17 => ⟨S1x16384x5, .f32⟩
  | 18 => ⟨S1x16384x5, .f32⟩
  | 19 => ⟨S1x16384x5, .f32⟩
  | 20 => ⟨S1x16384x5, .f32⟩
  | 21 => ⟨S1x16384x5, .f32⟩
  | 22 => ⟨S1x16384x5, .f32⟩
  | 23 => ⟨S1x16384x5, .f32⟩
  | 24 => ⟨S16x16384x5, .f32⟩
  | 25 => ⟨S4x16384x5, .f32⟩
  | 26 => ⟨S20x16384x5, .f32⟩
  | 27 => ⟨S16384x20x5, .f32⟩
  | 28 => ⟨S_, .f32⟩
  | 29 => ⟨S_, .f32⟩
  | 30 => ⟨S16384x20x5, .f32⟩
  | _ => ⟨S16384x20x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x20x3, .f32⟩

abbrev vmemTy0_0 (i : Nat) : BufTy := match i % 128 with
  | 0 => ⟨S4096x512, .f32⟩
  | 1 => ⟨S4096x512, .f32⟩
  | 2 => ⟨S1x4096, .i32⟩
  | 3 => ⟨S1x4096, .i32⟩
  | 4 => ⟨S64x128, .f32⟩
  | 5 => ⟨S512x128, .f32⟩
  | 6 => ⟨S1x512, .f32⟩
  | 7 => ⟨S4096x128, .f32⟩
  | 8 => ⟨S4096x128, .f32⟩
  | 9 => ⟨S4096x128, .f32⟩
  | 10 => ⟨S4096x128, .f32⟩
  | 11 => ⟨S4096x128, .f32⟩
  | 12 => ⟨S4096x128, .f32⟩
  | 13 => ⟨S4096x512, .f32⟩
  | 14 => ⟨S4096x512, .f32⟩
  | 15 => ⟨S1x4096, .i32⟩
  | 16 => ⟨S1x4096, .i32⟩
  | 17 => ⟨S64x128, .f32⟩
  | 18 => ⟨S512x128, .f32⟩
  | 19 => ⟨S1x512, .f32⟩
  | 20 => ⟨S4096x128, .f32⟩
  | 21 => ⟨S4096x128, .f32⟩
  | 22 => ⟨S4096x128, .f32⟩
  | 23 => ⟨S4096x128, .f32⟩
  | 24 => ⟨S4096x128, .f32⟩
  | 25 => ⟨S4096x128, .f32⟩
  | 26 => ⟨S4096x512, .f32⟩
  | 27 => ⟨S4096x512, .f32⟩
  | 28 => ⟨S1x4096, .i32⟩
  | 29 => ⟨S1x4096, .i32⟩
  | 30 => ⟨S64x128, .f32⟩
  | 31 => ⟨S512x128, .f32⟩
  | 32 => ⟨S1x512, .f32⟩
  | 33 => ⟨S4096x128, .f32⟩
  | 34 => ⟨S4096x128, .f32⟩
  | 35 => ⟨S4096x128, .f32⟩
  | 36 => ⟨S4096x128, .f32⟩
  | 37 => ⟨S4096x128, .f32⟩
  | 38 => ⟨S4096x128, .f32⟩
  | 39 => ⟨S4096x512, .f32⟩
  | 40 => ⟨S4096x512, .f32⟩
  | 41 => ⟨S1x4096, .i32⟩
  | 42 => ⟨S1x4096, .i32⟩
  | 43 => ⟨S64x128, .f32⟩
  | 44 => ⟨S512x128, .f32⟩
  | 45 => ⟨S1x512, .f32⟩
  | 46 => ⟨S4096x128, .f32⟩
  | 47 => ⟨S4096x128, .f32⟩
  | 48 => ⟨S4096x128, .f32⟩
  | 49 => ⟨S4096x128, .f32⟩
  | 50 => ⟨S4096x128, .f32⟩
  | 51 => ⟨S4096x128, .f32⟩
  | 52 => ⟨S4096x512, .f32⟩
  | 53 => ⟨S4096x512, .f32⟩
  | 54 => ⟨S1x4096, .i32⟩
  | 55 => ⟨S1x4096, .i32⟩
  | 56 => ⟨S64x128, .f32⟩
  | 57 => ⟨S512x128, .f32⟩
  | 58 => ⟨S1x512, .f32⟩
  | 59 => ⟨S4096x128, .f32⟩
  | 60 => ⟨S4096x128, .f32⟩
  | 61 => ⟨S4096x128, .f32⟩
  | 62 => ⟨S4096x128, .f32⟩
  | 63 => ⟨S4096x128, .f32⟩
  | 64 => ⟨S4096x128, .f32⟩
  | 65 => ⟨S4096x512, .f32⟩
  | 66 => ⟨S4096x512, .f32⟩
  | 67 => ⟨S1x4096, .i32⟩
  | 68 => ⟨S1x4096, .i32⟩
  | 69 => ⟨S64x128, .f32⟩
  | 70 => ⟨S512x128, .f32⟩
  | 71 => ⟨S1x512, .f32⟩
  | 72 => ⟨S4096x128, .f32⟩
  | 73 => ⟨S4096x128, .f32⟩
  | 74 => ⟨S4096x128, .f32⟩
  | 75 => ⟨S4096x128, .f32⟩
  | 76 => ⟨S4096x128, .f32⟩
  | 77 => ⟨S4096x128, .f32⟩
  | 78 => ⟨S4096x512, .f32⟩
  | 79 => ⟨S4096x512, .f32⟩
  | 80 => ⟨S1x4096, .i32⟩
  | 81 => ⟨S1x4096, .i32⟩
  | 82 => ⟨S64x128, .f32⟩
  | 83 => ⟨S512x128, .f32⟩
  | 84 => ⟨S1x512, .f32⟩
  | 85 => ⟨S4096x128, .f32⟩
  | 86 => ⟨S4096x128, .f32⟩
  | 87 => ⟨S4096x128, .f32⟩
  | 88 => ⟨S4096x128, .f32⟩
  | 89 => ⟨S4096x128, .f32⟩
  | 90 => ⟨S4096x128, .f32⟩
  | 91 => ⟨S4096x512, .f32⟩
  | 92 => ⟨S4096x512, .f32⟩
  | 93 => ⟨S1x4096, .i32⟩
  | 94 => ⟨S1x4096, .i32⟩
  | 95 => ⟨S64x128, .f32⟩
  | 96 => ⟨S512x128, .f32⟩
  | 97 => ⟨S1x512, .f32⟩
  | 98 => ⟨S4096x128, .f32⟩
  | 99 => ⟨S4096x128, .f32⟩
  | 100 => ⟨S4096x128, .f32⟩
  | 101 => ⟨S4096x128, .f32⟩
  | 102 => ⟨S4096x128, .f32⟩
  | 103 => ⟨S4096x128, .f32⟩
  | 104 => ⟨S4096x512, .f32⟩
  | 105 => ⟨S4096x512, .f32⟩
  | 106 => ⟨S1x4096, .i32⟩
  | 107 => ⟨S1x4096, .i32⟩
  | 108 => ⟨S64x128, .f32⟩
  | 109 => ⟨S512x128, .f32⟩
  | 110 => ⟨S1x512, .f32⟩
  | 111 => ⟨S4096x128, .f32⟩
  | 112 => ⟨S4096x128, .f32⟩
  | 113 => ⟨S4096x128, .f32⟩
  | 114 => ⟨S4096x128, .f32⟩
  | 115 => ⟨S4096x128, .f32⟩
  | 116 => ⟨S4096x128, .f32⟩
  | 117 => ⟨S4096x512, .f32⟩
  | 118 => ⟨S4096x512, .f32⟩
  | 119 => ⟨S1x4096, .i32⟩
  | 120 => ⟨S1x4096, .i32⟩
  | 121 => ⟨S64x128, .f32⟩
  | 122 => ⟨S512x128, .f32⟩
  | 123 => ⟨S1x512, .f32⟩
  | 124 => ⟨S4096x128, .f32⟩
  | 125 => ⟨S4096x128, .f32⟩
  | 126 => ⟨S4096x128, .f32⟩
  | 127 => ⟨S4096x128, .f32⟩
  | _ => ⟨S16384x20x3, .f32⟩

abbrev vmemTy0_1 (i : Nat) : BufTy := match i % 128 with
  | 0 => ⟨S4096x128, .f32⟩
  | 1 => ⟨S4096x128, .f32⟩
  | 2 => ⟨S4096x512, .f32⟩
  | 3 => ⟨S4096x512, .f32⟩
  | 4 => ⟨S1x4096, .i32⟩
  | 5 => ⟨S1x4096, .i32⟩
  | 6 => ⟨S64x128, .f32⟩
  | 7 => ⟨S512x128, .f32⟩
  | 8 => ⟨S1x512, .f32⟩
  | 9 => ⟨S4096x128, .f32⟩
  | 10 => ⟨S4096x128, .f32⟩
  | 11 => ⟨S4096x128, .f32⟩
  | 12 => ⟨S4096x128, .f32⟩
  | 13 => ⟨S4096x128, .f32⟩
  | 14 => ⟨S4096x128, .f32⟩
  | 15 => ⟨S4096x512, .f32⟩
  | 16 => ⟨S4096x512, .f32⟩
  | 17 => ⟨S1x4096, .i32⟩
  | 18 => ⟨S1x4096, .i32⟩
  | 19 => ⟨S64x128, .f32⟩
  | 20 => ⟨S512x128, .f32⟩
  | 21 => ⟨S1x512, .f32⟩
  | 22 => ⟨S4096x128, .f32⟩
  | 23 => ⟨S4096x128, .f32⟩
  | 24 => ⟨S4096x128, .f32⟩
  | 25 => ⟨S4096x128, .f32⟩
  | 26 => ⟨S4096x128, .f32⟩
  | 27 => ⟨S4096x128, .f32⟩
  | 28 => ⟨S4096x512, .f32⟩
  | 29 => ⟨S4096x512, .f32⟩
  | 30 => ⟨S1x4096, .i32⟩
  | 31 => ⟨S1x4096, .i32⟩
  | 32 => ⟨S64x128, .f32⟩
  | 33 => ⟨S512x128, .f32⟩
  | 34 => ⟨S1x512, .f32⟩
  | 35 => ⟨S4096x128, .f32⟩
  | 36 => ⟨S4096x128, .f32⟩
  | 37 => ⟨S4096x128, .f32⟩
  | 38 => ⟨S4096x128, .f32⟩
  | 39 => ⟨S4096x128, .f32⟩
  | 40 => ⟨S4096x128, .f32⟩
  | 41 => ⟨S4096x512, .f32⟩
  | 42 => ⟨S4096x512, .f32⟩
  | 43 => ⟨S1x4096, .i32⟩
  | 44 => ⟨S1x4096, .i32⟩
  | 45 => ⟨S64x128, .f32⟩
  | 46 => ⟨S512x128, .f32⟩
  | 47 => ⟨S1x512, .f32⟩
  | 48 => ⟨S4096x128, .f32⟩
  | 49 => ⟨S4096x128, .f32⟩
  | 50 => ⟨S4096x128, .f32⟩
  | 51 => ⟨S4096x128, .f32⟩
  | 52 => ⟨S4096x128, .f32⟩
  | 53 => ⟨S4096x128, .f32⟩
  | 54 => ⟨S4096x512, .f32⟩
  | 55 => ⟨S4096x512, .f32⟩
  | 56 => ⟨S1x4096, .i32⟩
  | 57 => ⟨S1x4096, .i32⟩
  | 58 => ⟨S64x128, .f32⟩
  | 59 => ⟨S512x128, .f32⟩
  | 60 => ⟨S1x512, .f32⟩
  | 61 => ⟨S4096x128, .f32⟩
  | 62 => ⟨S4096x128, .f32⟩
  | 63 => ⟨S4096x128, .f32⟩
  | 64 => ⟨S4096x128, .f32⟩
  | 65 => ⟨S4096x128, .f32⟩
  | 66 => ⟨S4096x128, .f32⟩
  | 67 => ⟨S4096x512, .f32⟩
  | 68 => ⟨S4096x512, .f32⟩
  | 69 => ⟨S1x4096, .i32⟩
  | 70 => ⟨S1x4096, .i32⟩
  | 71 => ⟨S64x128, .f32⟩
  | 72 => ⟨S512x128, .f32⟩
  | 73 => ⟨S1x512, .f32⟩
  | 74 => ⟨S4096x128, .f32⟩
  | 75 => ⟨S4096x128, .f32⟩
  | 76 => ⟨S4096x128, .f32⟩
  | 77 => ⟨S4096x128, .f32⟩
  | 78 => ⟨S4096x128, .f32⟩
  | 79 => ⟨S4096x128, .f32⟩
  | 80 => ⟨S4096x512, .f32⟩
  | 81 => ⟨S4096x512, .f32⟩
  | 82 => ⟨S1x4096, .i32⟩
  | 83 => ⟨S1x4096, .i32⟩
  | 84 => ⟨S64x128, .f32⟩
  | 85 => ⟨S512x128, .f32⟩
  | 86 => ⟨S1x512, .f32⟩
  | 87 => ⟨S4096x128, .f32⟩
  | 88 => ⟨S4096x128, .f32⟩
  | 89 => ⟨S4096x128, .f32⟩
  | 90 => ⟨S4096x128, .f32⟩
  | 91 => ⟨S4096x128, .f32⟩
  | 92 => ⟨S4096x128, .f32⟩
  | 93 => ⟨S4096x512, .f32⟩
  | 94 => ⟨S4096x512, .f32⟩
  | 95 => ⟨S1x4096, .i32⟩
  | 96 => ⟨S1x4096, .i32⟩
  | 97 => ⟨S64x128, .f32⟩
  | 98 => ⟨S512x128, .f32⟩
  | 99 => ⟨S1x512, .f32⟩
  | 100 => ⟨S4096x128, .f32⟩
  | 101 => ⟨S4096x128, .f32⟩
  | 102 => ⟨S4096x128, .f32⟩
  | 103 => ⟨S4096x128, .f32⟩
  | 104 => ⟨S4096x128, .f32⟩
  | 105 => ⟨S4096x128, .f32⟩
  | 106 => ⟨S4096x512, .f32⟩
  | 107 => ⟨S4096x512, .f32⟩
  | 108 => ⟨S1x4096, .i32⟩
  | 109 => ⟨S1x4096, .i32⟩
  | 110 => ⟨S64x128, .f32⟩
  | 111 => ⟨S512x128, .f32⟩
  | 112 => ⟨S1x512, .f32⟩
  | 113 => ⟨S4096x128, .f32⟩
  | 114 => ⟨S4096x128, .f32⟩
  | 115 => ⟨S4096x128, .f32⟩
  | 116 => ⟨S4096x128, .f32⟩
  | 117 => ⟨S4096x128, .f32⟩
  | 118 => ⟨S4096x128, .f32⟩
  | 119 => ⟨S4096x512, .f32⟩
  | 120 => ⟨S4096x512, .f32⟩
  | 121 => ⟨S1x4096, .i32⟩
  | 122 => ⟨S1x4096, .i32⟩
  | 123 => ⟨S64x128, .f32⟩
  | 124 => ⟨S512x128, .f32⟩
  | 125 => ⟨S1x512, .f32⟩
  | 126 => ⟨S4096x128, .f32⟩
  | 127 => ⟨S4096x128, .f32⟩
  | _ => ⟨S16384x20x3, .f32⟩

abbrev vmemTy0_2 (i : Nat) : BufTy := match i % 128 with
  | 0 => ⟨S4096x128, .f32⟩
  | 1 => ⟨S4096x128, .f32⟩
  | 2 => ⟨S4096x128, .f32⟩
  | 3 => ⟨S4096x128, .f32⟩
  | _ => ⟨S16384x20x3, .f32⟩

abbrev vmemTy (i : Nat) : BufTy := match i / 128 with
  | 0 => vmemTy0_0 i
  | 1 => vmemTy0_1 i
  | 2 => vmemTy0_2 i
  | _ => ⟨S16384x20x3, .f32⟩

abbrev bufTy : (tb : Table) → Fin (tcTables nBuf tb) → BufTy
  | .hbm, ⟨i, _⟩ => hbmTy i
  | .local _ .vmem, ⟨i, _⟩ => vmemTy i
  | _, _ => ⟨S16384x20x3, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 260 → Bool
  | ⟨i, _⟩ => dmaSemScopedAt i

abbrev sig : RefSig :=
  ofTc nBuf bufTy 0 260 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v5 : Ref sig .tc := ⟨.hbm, 28, rfl⟩
abbrev main_cst_3 : Ref sig .tc := ⟨.hbm, 29, rfl⟩
abbrev main_v6 : Ref sig .tc := ⟨.hbm, 30, rfl⟩
abbrev main_v7 : Ref sig .tc := ⟨.hbm, 31, rfl⟩
abbrev main_cst_4 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_c_5 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v12 : Ref sig .tc := ⟨.hbm, 44, rfl⟩
abbrev main_cst_6 : Ref sig .tc := ⟨.hbm, 45, rfl⟩
abbrev main_v13 : Ref sig .tc := ⟨.hbm, 46, rfl⟩
abbrev main_v14 : Ref sig .tc := ⟨.hbm, 47, rfl⟩
abbrev main_cst_7 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_c_8 : Ref sig .tc := ⟨.hbm, 53, rfl⟩
abbrev main_c_9 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v19 : Ref sig .tc := ⟨.hbm, 60, rfl⟩
abbrev main_c_10 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_call4_cst : Ref sig .tc := ⟨.hbm, 73, rfl⟩
abbrev main_call4_v0 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_cst_12 : Ref sig .tc := ⟨.hbm, 78, rfl⟩
abbrev main_v33 : Ref sig .tc := ⟨.hbm, 79, rfl⟩
abbrev main_cst_13 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44_0 : Ref sig .tc := ⟨.hbm, 91, rfl⟩
abbrev main_v44_1 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_14 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64_0 : Ref sig .tc := ⟨.hbm, 113, rfl⟩
abbrev main_v64_1 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_15 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84_0 : Ref sig .tc := ⟨.hbm, 135, rfl⟩
abbrev main_v84_1 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_16 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104_0 : Ref sig .tc := ⟨.hbm, 157, rfl⟩
abbrev main_v104_1 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_17 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124_0 : Ref sig .tc := ⟨.hbm, 179, rfl⟩
abbrev main_v124_1 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_18 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144_0 : Ref sig .tc := ⟨.hbm, 201, rfl⟩
abbrev main_v144_1 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_19 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164_0 : Ref sig .tc := ⟨.hbm, 223, rfl⟩
abbrev main_v164_1 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_20 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184_0 : Ref sig .tc := ⟨.hbm, 245, rfl⟩
abbrev main_v184_1 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_cst_21 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204_0 : Ref sig .tc := ⟨.hbm, 267, rfl⟩
abbrev main_v204_1 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_cst_22 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224_0 : Ref sig .tc := ⟨.hbm, 289, rfl⟩
abbrev main_v224_1 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_cst_23 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244_0 : Ref sig .tc := ⟨.hbm, 311, rfl⟩
abbrev main_v244_1 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_cst_24 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264_0 : Ref sig .tc := ⟨.hbm, 333, rfl⟩
abbrev main_v264_1 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_cst_25 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284_0 : Ref sig .tc := ⟨.hbm, 355, rfl⟩
abbrev main_v284_1 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_cst_26 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_v304_0 : Ref sig .tc := ⟨.hbm, 377, rfl⟩
abbrev main_v304_1 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_cst_27 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_v321 : Ref sig .tc := ⟨.hbm, 396, rfl⟩
abbrev main_v322 : Ref sig .tc := ⟨.hbm, 397, rfl⟩
abbrev main_v323 : Ref sig .tc := ⟨.hbm, 398, rfl⟩
abbrev main_v324_0 : Ref sig .tc := ⟨.hbm, 399, rfl⟩
abbrev main_v324_1 : Ref sig .tc := ⟨.hbm, 400, rfl⟩
abbrev main_v325 : Ref sig .tc := ⟨.hbm, 401, rfl⟩
abbrev main_v326 : Ref sig .tc := ⟨.hbm, 402, rfl⟩
abbrev main_v327 : Ref sig .tc := ⟨.hbm, 403, rfl⟩
abbrev main_v328 : Ref sig .tc := ⟨.hbm, 404, rfl⟩
abbrev main_v329 : Ref sig .tc := ⟨.hbm, 405, rfl⟩
abbrev main_v330 : Ref sig .tc := ⟨.hbm, 406, rfl⟩
abbrev main_v331 : Ref sig .tc := ⟨.hbm, 407, rfl⟩
abbrev main_cst_28 : Ref sig .tc := ⟨.hbm, 408, rfl⟩
abbrev main_v332 : Ref sig .tc := ⟨.hbm, 409, rfl⟩
abbrev main_v333 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_v344_0 : Ref sig .tc := ⟨.hbm, 421, rfl⟩
abbrev main_v344_1 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_cst_29 : Ref sig .tc := ⟨.hbm, 430, rfl⟩
abbrev main_v352 : Ref sig .tc := ⟨.hbm, 431, rfl⟩
abbrev main_v353 : Ref sig .tc := ⟨.hbm, 432, rfl⟩
abbrev main_v354 : Ref sig .tc := ⟨.hbm, 433, rfl⟩
abbrev main_v355 : Ref sig .tc := ⟨.hbm, 434, rfl⟩
abbrev main_v356 : Ref sig .tc := ⟨.hbm, 435, rfl⟩
abbrev main_v357 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_v363 : Ref sig .tc := ⟨.hbm, 442, rfl⟩
abbrev main_v364_0 : Ref sig .tc := ⟨.hbm, 443, rfl⟩
abbrev main_v364_1 : Ref sig .tc := ⟨.hbm, 444, rfl⟩
abbrev main_v365 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_v371 : Ref sig .tc := ⟨.hbm, 451, rfl⟩
abbrev main_cst_30 : Ref sig .tc := ⟨.hbm, 452, rfl⟩
abbrev main_v372 : Ref sig .tc := ⟨.hbm, 453, rfl⟩
abbrev main_v373 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384_0 : Ref sig .tc := ⟨.hbm, 465, rfl⟩
abbrev main_v384_1 : Ref sig .tc := ⟨.hbm, 466, rfl⟩
abbrev main_v385 : Ref sig .tc := ⟨.hbm, 467, rfl⟩
abbrev main_v386 : Ref sig .tc := ⟨.hbm, 468, rfl⟩
abbrev main_v387 : Ref sig .tc := ⟨.hbm, 469, rfl⟩
abbrev main_v388 : Ref sig .tc := ⟨.hbm, 470, rfl⟩
abbrev main_v389 : Ref sig .tc := ⟨.hbm, 471, rfl⟩
abbrev main_v390 : Ref sig .tc := ⟨.hbm, 472, rfl⟩
abbrev main_v391 : Ref sig .tc := ⟨.hbm, 473, rfl⟩
abbrev main_cst_31 : Ref sig .tc := ⟨.hbm, 474, rfl⟩
abbrev main_v392 : Ref sig .tc := ⟨.hbm, 475, rfl⟩
abbrev main_v393 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩
abbrev main_v397 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_v401 : Ref sig .tc := ⟨.hbm, 484, rfl⟩
abbrev main_v402 : Ref sig .tc := ⟨.hbm, 485, rfl⟩
abbrev main_v403 : Ref sig .tc := ⟨.hbm, 486, rfl⟩
abbrev main_v404_0 : Ref sig .tc := ⟨.hbm, 487, rfl⟩
abbrev main_v404_1 : Ref sig .tc := ⟨.hbm, 488, rfl⟩
abbrev main_v405 : Ref sig .tc := ⟨.hbm, 489, rfl⟩
abbrev main_v406 : Ref sig .tc := ⟨.hbm, 490, rfl⟩
abbrev main_v407 : Ref sig .tc := ⟨.hbm, 491, rfl⟩
abbrev main_v408 : Ref sig .tc := ⟨.hbm, 492, rfl⟩
abbrev main_v409 : Ref sig .tc := ⟨.hbm, 493, rfl⟩
abbrev main_v410 : Ref sig .tc := ⟨.hbm, 494, rfl⟩
abbrev main_v411 : Ref sig .tc := ⟨.hbm, 495, rfl⟩
abbrev main_cst_32 : Ref sig .tc := ⟨.hbm, 496, rfl⟩
abbrev main_v412 : Ref sig .tc := ⟨.hbm, 497, rfl⟩
abbrev main_v413 : Ref sig .tc := ⟨.hbm, 498, rfl⟩
abbrev main_v414 : Ref sig .tc := ⟨.hbm, 499, rfl⟩
abbrev main_v415 : Ref sig .tc := ⟨.hbm, 500, rfl⟩
abbrev main_v416 : Ref sig .tc := ⟨.hbm, 501, rfl⟩
abbrev main_v417 : Ref sig .tc := ⟨.hbm, 502, rfl⟩
abbrev main_v418 : Ref sig .tc := ⟨.hbm, 503, rfl⟩
abbrev main_v419 : Ref sig .tc := ⟨.hbm, 504, rfl⟩
abbrev main_v420 : Ref sig .tc := ⟨.hbm, 505, rfl⟩
abbrev main_v421 : Ref sig .tc := ⟨.hbm, 506, rfl⟩
abbrev main_v422 : Ref sig .tc := ⟨.hbm, 507, rfl⟩
abbrev main_v423 : Ref sig .tc := ⟨.hbm, 508, rfl⟩
abbrev main_v424_0 : Ref sig .tc := ⟨.hbm, 509, rfl⟩
abbrev main_v424_1 : Ref sig .tc := ⟨.hbm, 510, rfl⟩
abbrev main_v425 : Ref sig .tc := ⟨.hbm, 511, rfl⟩
abbrev main_v426 : Ref sig .tc := ⟨.hbm, 512, rfl⟩
abbrev main_v427 : Ref sig .tc := ⟨.hbm, 513, rfl⟩
abbrev main_v428 : Ref sig .tc := ⟨.hbm, 514, rfl⟩
abbrev main_v429 : Ref sig .tc := ⟨.hbm, 515, rfl⟩
abbrev main_v430 : Ref sig .tc := ⟨.hbm, 516, rfl⟩
abbrev main_v431 : Ref sig .tc := ⟨.hbm, 517, rfl⟩
abbrev main_v432 : Ref sig .tc := ⟨.hbm, 518, rfl⟩
abbrev main_v433 : Ref sig .tc := ⟨.hbm, 519, rfl⟩
abbrev main_v434 : Ref sig .tc := ⟨.hbm, 520, rfl⟩
abbrev main_v435 : Ref sig .tc := ⟨.hbm, 521, rfl⟩
abbrev main_v436 : Ref sig .tc := ⟨.hbm, 522, rfl⟩
abbrev main_v437 : Ref sig .tc := ⟨.hbm, 523, rfl⟩
abbrev main_v438 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_v448 : Ref sig .tc := ⟨.hbm, 534, rfl⟩
abbrev main_v449 : Ref sig .tc := ⟨.hbm, 535, rfl⟩
abbrev main_v450 : Ref sig .tc := ⟨.hbm, 536, rfl⟩
abbrev main_v451 : Ref sig .tc := ⟨.hbm, 537, rfl⟩
abbrev main_v452 : Ref sig .tc := ⟨.hbm, 538, rfl⟩
abbrev main_v453 : Ref sig .tc := ⟨.hbm, 539, rfl⟩
abbrev main_call5_call0_cst : Ref sig .tc := ⟨.hbm, 540, rfl⟩
abbrev main_call5_call0_v0 : Ref sig .tc := ⟨.hbm, 541, rfl⟩
abbrev main_v454 : Ref sig .tc := ⟨.hbm, 542, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc3_stg7_0 : Ref sig .tc := ⟨.vmem, 50, rfl⟩
abbrev cc3_stg7_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg5_1 : Ref sig .tc := ⟨.vmem, 60, rfl⟩
abbrev cc4_stg6_0 : Ref sig .tc := ⟨.vmem, 61, rfl⟩
abbrev cc4_stg6_1 : Ref sig .tc := ⟨.vmem, 62, rfl⟩
abbrev cc4_stg7_0 : Ref sig .tc := ⟨.vmem, 63, rfl⟩
abbrev cc4_stg7_1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg5_1 : Ref sig .tc := ⟨.vmem, 73, rfl⟩
abbrev cc5_stg6_0 : Ref sig .tc := ⟨.vmem, 74, rfl⟩
abbrev cc5_stg6_1 : Ref sig .tc := ⟨.vmem, 75, rfl⟩
abbrev cc5_stg7_0 : Ref sig .tc := ⟨.vmem, 76, rfl⟩
abbrev cc5_stg7_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg3_0 : Ref sig .tc := ⟨.vmem, 83, rfl⟩
abbrev cc6_stg4_0 : Ref sig .tc := ⟨.vmem, 84, rfl⟩
abbrev cc6_stg5_0 : Ref sig .tc := ⟨.vmem, 85, rfl⟩
abbrev cc6_stg5_1 : Ref sig .tc := ⟨.vmem, 86, rfl⟩
abbrev cc6_stg6_0 : Ref sig .tc := ⟨.vmem, 87, rfl⟩
abbrev cc6_stg6_1 : Ref sig .tc := ⟨.vmem, 88, rfl⟩
abbrev cc6_stg7_0 : Ref sig .tc := ⟨.vmem, 89, rfl⟩
abbrev cc6_stg7_1 : Ref sig .tc := ⟨.vmem, 90, rfl⟩
abbrev cc7_stg0_0 : Ref sig .tc := ⟨.vmem, 91, rfl⟩
abbrev cc7_stg0_1 : Ref sig .tc := ⟨.vmem, 92, rfl⟩
abbrev cc7_stg1_0 : Ref sig .tc := ⟨.vmem, 93, rfl⟩
abbrev cc7_stg1_1 : Ref sig .tc := ⟨.vmem, 94, rfl⟩
abbrev cc7_stg2_0 : Ref sig .tc := ⟨.vmem, 95, rfl⟩
abbrev cc7_stg3_0 : Ref sig .tc := ⟨.vmem, 96, rfl⟩
abbrev cc7_stg4_0 : Ref sig .tc := ⟨.vmem, 97, rfl⟩
abbrev cc7_stg5_0 : Ref sig .tc := ⟨.vmem, 98, rfl⟩
abbrev cc7_stg5_1 : Ref sig .tc := ⟨.vmem, 99, rfl⟩
abbrev cc7_stg6_0 : Ref sig .tc := ⟨.vmem, 100, rfl⟩
abbrev cc7_stg6_1 : Ref sig .tc := ⟨.vmem, 101, rfl⟩
abbrev cc7_stg7_0 : Ref sig .tc := ⟨.vmem, 102, rfl⟩
abbrev cc7_stg7_1 : Ref sig .tc := ⟨.vmem, 103, rfl⟩
abbrev cc8_stg0_0 : Ref sig .tc := ⟨.vmem, 104, rfl⟩
abbrev cc8_stg0_1 : Ref sig .tc := ⟨.vmem, 105, rfl⟩
abbrev cc8_stg1_0 : Ref sig .tc := ⟨.vmem, 106, rfl⟩
abbrev cc8_stg1_1 : Ref sig .tc := ⟨.vmem, 107, rfl⟩
abbrev cc8_stg2_0 : Ref sig .tc := ⟨.vmem, 108, rfl⟩
abbrev cc8_stg3_0 : Ref sig .tc := ⟨.vmem, 109, rfl⟩
abbrev cc8_stg4_0 : Ref sig .tc := ⟨.vmem, 110, rfl⟩
abbrev cc8_stg5_0 : Ref sig .tc := ⟨.vmem, 111, rfl⟩
abbrev cc8_stg5_1 : Ref sig .tc := ⟨.vmem, 112, rfl⟩
abbrev cc8_stg6_0 : Ref sig .tc := ⟨.vmem, 113, rfl⟩
abbrev cc8_stg6_1 : Ref sig .tc := ⟨.vmem, 114, rfl⟩
abbrev cc8_stg7_0 : Ref sig .tc := ⟨.vmem, 115, rfl⟩
abbrev cc8_stg7_1 : Ref sig .tc := ⟨.vmem, 116, rfl⟩
abbrev cc9_stg0_0 : Ref sig .tc := ⟨.vmem, 117, rfl⟩
abbrev cc9_stg0_1 : Ref sig .tc := ⟨.vmem, 118, rfl⟩
abbrev cc9_stg1_0 : Ref sig .tc := ⟨.vmem, 119, rfl⟩
abbrev cc9_stg1_1 : Ref sig .tc := ⟨.vmem, 120, rfl⟩
abbrev cc9_stg2_0 : Ref sig .tc := ⟨.vmem, 121, rfl⟩
abbrev cc9_stg3_0 : Ref sig .tc := ⟨.vmem, 122, rfl⟩
abbrev cc9_stg4_0 : Ref sig .tc := ⟨.vmem, 123, rfl⟩
abbrev cc9_stg5_0 : Ref sig .tc := ⟨.vmem, 124, rfl⟩
abbrev cc9_stg5_1 : Ref sig .tc := ⟨.vmem, 125, rfl⟩
abbrev cc9_stg6_0 : Ref sig .tc := ⟨.vmem, 126, rfl⟩
abbrev cc9_stg6_1 : Ref sig .tc := ⟨.vmem, 127, rfl⟩
abbrev cc9_stg7_0 : Ref sig .tc := ⟨.vmem, 128, rfl⟩
abbrev cc9_stg7_1 : Ref sig .tc := ⟨.vmem, 129, rfl⟩
abbrev cc10_stg0_0 : Ref sig .tc := ⟨.vmem, 130, rfl⟩
abbrev cc10_stg0_1 : Ref sig .tc := ⟨.vmem, 131, rfl⟩
abbrev cc10_stg1_0 : Ref sig .tc := ⟨.vmem, 132, rfl⟩
abbrev cc10_stg1_1 : Ref sig .tc := ⟨.vmem, 133, rfl⟩
abbrev cc10_stg2_0 : Ref sig .tc := ⟨.vmem, 134, rfl⟩
abbrev cc10_stg3_0 : Ref sig .tc := ⟨.vmem, 135, rfl⟩
abbrev cc10_stg4_0 : Ref sig .tc := ⟨.vmem, 136, rfl⟩
abbrev cc10_stg5_0 : Ref sig .tc := ⟨.vmem, 137, rfl⟩
abbrev cc10_stg5_1 : Ref sig .tc := ⟨.vmem, 138, rfl⟩
abbrev cc10_stg6_0 : Ref sig .tc := ⟨.vmem, 139, rfl⟩
abbrev cc10_stg6_1 : Ref sig .tc := ⟨.vmem, 140, rfl⟩
abbrev cc10_stg7_0 : Ref sig .tc := ⟨.vmem, 141, rfl⟩
abbrev cc10_stg7_1 : Ref sig .tc := ⟨.vmem, 142, rfl⟩
abbrev cc11_stg0_0 : Ref sig .tc := ⟨.vmem, 143, rfl⟩
abbrev cc11_stg0_1 : Ref sig .tc := ⟨.vmem, 144, rfl⟩
abbrev cc11_stg1_0 : Ref sig .tc := ⟨.vmem, 145, rfl⟩
abbrev cc11_stg1_1 : Ref sig .tc := ⟨.vmem, 146, rfl⟩
abbrev cc11_stg2_0 : Ref sig .tc := ⟨.vmem, 147, rfl⟩
abbrev cc11_stg3_0 : Ref sig .tc := ⟨.vmem, 148, rfl⟩
abbrev cc11_stg4_0 : Ref sig .tc := ⟨.vmem, 149, rfl⟩
abbrev cc11_stg5_0 : Ref sig .tc := ⟨.vmem, 150, rfl⟩
abbrev cc11_stg5_1 : Ref sig .tc := ⟨.vmem, 151, rfl⟩
abbrev cc11_stg6_0 : Ref sig .tc := ⟨.vmem, 152, rfl⟩
abbrev cc11_stg6_1 : Ref sig .tc := ⟨.vmem, 153, rfl⟩
abbrev cc11_stg7_0 : Ref sig .tc := ⟨.vmem, 154, rfl⟩
abbrev cc11_stg7_1 : Ref sig .tc := ⟨.vmem, 155, rfl⟩
abbrev cc12_stg0_0 : Ref sig .tc := ⟨.vmem, 156, rfl⟩
abbrev cc12_stg0_1 : Ref sig .tc := ⟨.vmem, 157, rfl⟩
abbrev cc12_stg1_0 : Ref sig .tc := ⟨.vmem, 158, rfl⟩
abbrev cc12_stg1_1 : Ref sig .tc := ⟨.vmem, 159, rfl⟩
abbrev cc12_stg2_0 : Ref sig .tc := ⟨.vmem, 160, rfl⟩
abbrev cc12_stg3_0 : Ref sig .tc := ⟨.vmem, 161, rfl⟩
abbrev cc12_stg4_0 : Ref sig .tc := ⟨.vmem, 162, rfl⟩
abbrev cc12_stg5_0 : Ref sig .tc := ⟨.vmem, 163, rfl⟩
abbrev cc12_stg5_1 : Ref sig .tc := ⟨.vmem, 164, rfl⟩
abbrev cc12_stg6_0 : Ref sig .tc := ⟨.vmem, 165, rfl⟩
abbrev cc12_stg6_1 : Ref sig .tc := ⟨.vmem, 166, rfl⟩
abbrev cc12_stg7_0 : Ref sig .tc := ⟨.vmem, 167, rfl⟩
abbrev cc12_stg7_1 : Ref sig .tc := ⟨.vmem, 168, rfl⟩
abbrev cc13_stg0_0 : Ref sig .tc := ⟨.vmem, 169, rfl⟩
abbrev cc13_stg0_1 : Ref sig .tc := ⟨.vmem, 170, rfl⟩
abbrev cc13_stg1_0 : Ref sig .tc := ⟨.vmem, 171, rfl⟩
abbrev cc13_stg1_1 : Ref sig .tc := ⟨.vmem, 172, rfl⟩
abbrev cc13_stg2_0 : Ref sig .tc := ⟨.vmem, 173, rfl⟩
abbrev cc13_stg3_0 : Ref sig .tc := ⟨.vmem, 174, rfl⟩
abbrev cc13_stg4_0 : Ref sig .tc := ⟨.vmem, 175, rfl⟩
abbrev cc13_stg5_0 : Ref sig .tc := ⟨.vmem, 176, rfl⟩
abbrev cc13_stg5_1 : Ref sig .tc := ⟨.vmem, 177, rfl⟩
abbrev cc13_stg6_0 : Ref sig .tc := ⟨.vmem, 178, rfl⟩
abbrev cc13_stg6_1 : Ref sig .tc := ⟨.vmem, 179, rfl⟩
abbrev cc13_stg7_0 : Ref sig .tc := ⟨.vmem, 180, rfl⟩
abbrev cc13_stg7_1 : Ref sig .tc := ⟨.vmem, 181, rfl⟩
abbrev cc14_stg0_0 : Ref sig .tc := ⟨.vmem, 182, rfl⟩
abbrev cc14_stg0_1 : Ref sig .tc := ⟨.vmem, 183, rfl⟩
abbrev cc14_stg1_0 : Ref sig .tc := ⟨.vmem, 184, rfl⟩
abbrev cc14_stg1_1 : Ref sig .tc := ⟨.vmem, 185, rfl⟩
abbrev cc14_stg2_0 : Ref sig .tc := ⟨.vmem, 186, rfl⟩
abbrev cc14_stg3_0 : Ref sig .tc := ⟨.vmem, 187, rfl⟩
abbrev cc14_stg4_0 : Ref sig .tc := ⟨.vmem, 188, rfl⟩
abbrev cc14_stg5_0 : Ref sig .tc := ⟨.vmem, 189, rfl⟩
abbrev cc14_stg5_1 : Ref sig .tc := ⟨.vmem, 190, rfl⟩
abbrev cc14_stg6_0 : Ref sig .tc := ⟨.vmem, 191, rfl⟩
abbrev cc14_stg6_1 : Ref sig .tc := ⟨.vmem, 192, rfl⟩
abbrev cc14_stg7_0 : Ref sig .tc := ⟨.vmem, 193, rfl⟩
abbrev cc14_stg7_1 : Ref sig .tc := ⟨.vmem, 194, rfl⟩
abbrev cc15_stg0_0 : Ref sig .tc := ⟨.vmem, 195, rfl⟩
abbrev cc15_stg0_1 : Ref sig .tc := ⟨.vmem, 196, rfl⟩
abbrev cc15_stg1_0 : Ref sig .tc := ⟨.vmem, 197, rfl⟩
abbrev cc15_stg1_1 : Ref sig .tc := ⟨.vmem, 198, rfl⟩
abbrev cc15_stg2_0 : Ref sig .tc := ⟨.vmem, 199, rfl⟩
abbrev cc15_stg3_0 : Ref sig .tc := ⟨.vmem, 200, rfl⟩
abbrev cc15_stg4_0 : Ref sig .tc := ⟨.vmem, 201, rfl⟩
abbrev cc15_stg5_0 : Ref sig .tc := ⟨.vmem, 202, rfl⟩
abbrev cc15_stg5_1 : Ref sig .tc := ⟨.vmem, 203, rfl⟩
abbrev cc15_stg6_0 : Ref sig .tc := ⟨.vmem, 204, rfl⟩
abbrev cc15_stg6_1 : Ref sig .tc := ⟨.vmem, 205, rfl⟩
abbrev cc15_stg7_0 : Ref sig .tc := ⟨.vmem, 206, rfl⟩
abbrev cc15_stg7_1 : Ref sig .tc := ⟨.vmem, 207, rfl⟩
abbrev cc16_stg0_0 : Ref sig .tc := ⟨.vmem, 208, rfl⟩
abbrev cc16_stg0_1 : Ref sig .tc := ⟨.vmem, 209, rfl⟩
abbrev cc16_stg1_0 : Ref sig .tc := ⟨.vmem, 210, rfl⟩
abbrev cc16_stg1_1 : Ref sig .tc := ⟨.vmem, 211, rfl⟩
abbrev cc16_stg2_0 : Ref sig .tc := ⟨.vmem, 212, rfl⟩
abbrev cc16_stg3_0 : Ref sig .tc := ⟨.vmem, 213, rfl⟩
abbrev cc16_stg4_0 : Ref sig .tc := ⟨.vmem, 214, rfl⟩
abbrev cc16_stg5_0 : Ref sig .tc := ⟨.vmem, 215, rfl⟩
abbrev cc16_stg5_1 : Ref sig .tc := ⟨.vmem, 216, rfl⟩
abbrev cc16_stg6_0 : Ref sig .tc := ⟨.vmem, 217, rfl⟩
abbrev cc16_stg6_1 : Ref sig .tc := ⟨.vmem, 218, rfl⟩
abbrev cc16_stg7_0 : Ref sig .tc := ⟨.vmem, 219, rfl⟩
abbrev cc16_stg7_1 : Ref sig .tc := ⟨.vmem, 220, rfl⟩
abbrev cc17_stg0_0 : Ref sig .tc := ⟨.vmem, 221, rfl⟩
abbrev cc17_stg0_1 : Ref sig .tc := ⟨.vmem, 222, rfl⟩
abbrev cc17_stg1_0 : Ref sig .tc := ⟨.vmem, 223, rfl⟩
abbrev cc17_stg1_1 : Ref sig .tc := ⟨.vmem, 224, rfl⟩
abbrev cc17_stg2_0 : Ref sig .tc := ⟨.vmem, 225, rfl⟩
abbrev cc17_stg3_0 : Ref sig .tc := ⟨.vmem, 226, rfl⟩
abbrev cc17_stg4_0 : Ref sig .tc := ⟨.vmem, 227, rfl⟩
abbrev cc17_stg5_0 : Ref sig .tc := ⟨.vmem, 228, rfl⟩
abbrev cc17_stg5_1 : Ref sig .tc := ⟨.vmem, 229, rfl⟩
abbrev cc17_stg6_0 : Ref sig .tc := ⟨.vmem, 230, rfl⟩
abbrev cc17_stg6_1 : Ref sig .tc := ⟨.vmem, 231, rfl⟩
abbrev cc17_stg7_0 : Ref sig .tc := ⟨.vmem, 232, rfl⟩
abbrev cc17_stg7_1 : Ref sig .tc := ⟨.vmem, 233, rfl⟩
abbrev cc18_stg0_0 : Ref sig .tc := ⟨.vmem, 234, rfl⟩
abbrev cc18_stg0_1 : Ref sig .tc := ⟨.vmem, 235, rfl⟩
abbrev cc18_stg1_0 : Ref sig .tc := ⟨.vmem, 236, rfl⟩
abbrev cc18_stg1_1 : Ref sig .tc := ⟨.vmem, 237, rfl⟩
abbrev cc18_stg2_0 : Ref sig .tc := ⟨.vmem, 238, rfl⟩
abbrev cc18_stg3_0 : Ref sig .tc := ⟨.vmem, 239, rfl⟩
abbrev cc18_stg4_0 : Ref sig .tc := ⟨.vmem, 240, rfl⟩
abbrev cc18_stg5_0 : Ref sig .tc := ⟨.vmem, 241, rfl⟩
abbrev cc18_stg5_1 : Ref sig .tc := ⟨.vmem, 242, rfl⟩
abbrev cc18_stg6_0 : Ref sig .tc := ⟨.vmem, 243, rfl⟩
abbrev cc18_stg6_1 : Ref sig .tc := ⟨.vmem, 244, rfl⟩
abbrev cc18_stg7_0 : Ref sig .tc := ⟨.vmem, 245, rfl⟩
abbrev cc18_stg7_1 : Ref sig .tc := ⟨.vmem, 246, rfl⟩
abbrev cc19_stg0_0 : Ref sig .tc := ⟨.vmem, 247, rfl⟩
abbrev cc19_stg0_1 : Ref sig .tc := ⟨.vmem, 248, rfl⟩
abbrev cc19_stg1_0 : Ref sig .tc := ⟨.vmem, 249, rfl⟩
abbrev cc19_stg1_1 : Ref sig .tc := ⟨.vmem, 250, rfl⟩
abbrev cc19_stg2_0 : Ref sig .tc := ⟨.vmem, 251, rfl⟩
abbrev cc19_stg3_0 : Ref sig .tc := ⟨.vmem, 252, rfl⟩
abbrev cc19_stg4_0 : Ref sig .tc := ⟨.vmem, 253, rfl⟩
abbrev cc19_stg5_0 : Ref sig .tc := ⟨.vmem, 254, rfl⟩
abbrev cc19_stg5_1 : Ref sig .tc := ⟨.vmem, 255, rfl⟩
abbrev cc19_stg6_0 : Ref sig .tc := ⟨.vmem, 256, rfl⟩
abbrev cc19_stg6_1 : Ref sig .tc := ⟨.vmem, 257, rfl⟩
abbrev cc19_stg7_0 : Ref sig .tc := ⟨.vmem, 258, rfl⟩
abbrev cc19_stg7_1 : Ref sig .tc := ⟨.vmem, 259, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34
abbrev cc2_sem6_0 : DmaSem sig := 35
abbrev cc2_sem6_1 : DmaSem sig := 36
abbrev cc2_sem7_0 : DmaSem sig := 37
abbrev cc2_sem7_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem5_1 : DmaSem sig := 47
abbrev cc3_sem6_0 : DmaSem sig := 48
abbrev cc3_sem6_1 : DmaSem sig := 49
abbrev cc3_sem7_0 : DmaSem sig := 50
abbrev cc3_sem7_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem5_1 : DmaSem sig := 60
abbrev cc4_sem6_0 : DmaSem sig := 61
abbrev cc4_sem6_1 : DmaSem sig := 62
abbrev cc4_sem7_0 : DmaSem sig := 63
abbrev cc4_sem7_1 : DmaSem sig := 64
abbrev cc5_sem0_0 : DmaSem sig := 65
abbrev cc5_sem0_1 : DmaSem sig := 66
abbrev cc5_sem1_0 : DmaSem sig := 67
abbrev cc5_sem1_1 : DmaSem sig := 68
abbrev cc5_sem2_0 : DmaSem sig := 69
abbrev cc5_sem3_0 : DmaSem sig := 70
abbrev cc5_sem4_0 : DmaSem sig := 71
abbrev cc5_sem5_0 : DmaSem sig := 72
abbrev cc5_sem5_1 : DmaSem sig := 73
abbrev cc5_sem6_0 : DmaSem sig := 74
abbrev cc5_sem6_1 : DmaSem sig := 75
abbrev cc5_sem7_0 : DmaSem sig := 76
abbrev cc5_sem7_1 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem3_0 : DmaSem sig := 83
abbrev cc6_sem4_0 : DmaSem sig := 84
abbrev cc6_sem5_0 : DmaSem sig := 85
abbrev cc6_sem5_1 : DmaSem sig := 86
abbrev cc6_sem6_0 : DmaSem sig := 87
abbrev cc6_sem6_1 : DmaSem sig := 88
abbrev cc6_sem7_0 : DmaSem sig := 89
abbrev cc6_sem7_1 : DmaSem sig := 90
abbrev cc7_sem0_0 : DmaSem sig := 91
abbrev cc7_sem0_1 : DmaSem sig := 92
abbrev cc7_sem1_0 : DmaSem sig := 93
abbrev cc7_sem1_1 : DmaSem sig := 94
abbrev cc7_sem2_0 : DmaSem sig := 95
abbrev cc7_sem3_0 : DmaSem sig := 96
abbrev cc7_sem4_0 : DmaSem sig := 97
abbrev cc7_sem5_0 : DmaSem sig := 98
abbrev cc7_sem5_1 : DmaSem sig := 99
abbrev cc7_sem6_0 : DmaSem sig := 100
abbrev cc7_sem6_1 : DmaSem sig := 101
abbrev cc7_sem7_0 : DmaSem sig := 102
abbrev cc7_sem7_1 : DmaSem sig := 103
abbrev cc8_sem0_0 : DmaSem sig := 104
abbrev cc8_sem0_1 : DmaSem sig := 105
abbrev cc8_sem1_0 : DmaSem sig := 106
abbrev cc8_sem1_1 : DmaSem sig := 107
abbrev cc8_sem2_0 : DmaSem sig := 108
abbrev cc8_sem3_0 : DmaSem sig := 109
abbrev cc8_sem4_0 : DmaSem sig := 110
abbrev cc8_sem5_0 : DmaSem sig := 111
abbrev cc8_sem5_1 : DmaSem sig := 112
abbrev cc8_sem6_0 : DmaSem sig := 113
abbrev cc8_sem6_1 : DmaSem sig := 114
abbrev cc8_sem7_0 : DmaSem sig := 115
abbrev cc8_sem7_1 : DmaSem sig := 116
abbrev cc9_sem0_0 : DmaSem sig := 117
abbrev cc9_sem0_1 : DmaSem sig := 118
abbrev cc9_sem1_0 : DmaSem sig := 119
abbrev cc9_sem1_1 : DmaSem sig := 120
abbrev cc9_sem2_0 : DmaSem sig := 121
abbrev cc9_sem3_0 : DmaSem sig := 122
abbrev cc9_sem4_0 : DmaSem sig := 123
abbrev cc9_sem5_0 : DmaSem sig := 124
abbrev cc9_sem5_1 : DmaSem sig := 125
abbrev cc9_sem6_0 : DmaSem sig := 126
abbrev cc9_sem6_1 : DmaSem sig := 127
abbrev cc9_sem7_0 : DmaSem sig := 128
abbrev cc9_sem7_1 : DmaSem sig := 129
abbrev cc10_sem0_0 : DmaSem sig := 130
abbrev cc10_sem0_1 : DmaSem sig := 131
abbrev cc10_sem1_0 : DmaSem sig := 132
abbrev cc10_sem1_1 : DmaSem sig := 133
abbrev cc10_sem2_0 : DmaSem sig := 134
abbrev cc10_sem3_0 : DmaSem sig := 135
abbrev cc10_sem4_0 : DmaSem sig := 136
abbrev cc10_sem5_0 : DmaSem sig := 137
abbrev cc10_sem5_1 : DmaSem sig := 138
abbrev cc10_sem6_0 : DmaSem sig := 139
abbrev cc10_sem6_1 : DmaSem sig := 140
abbrev cc10_sem7_0 : DmaSem sig := 141
abbrev cc10_sem7_1 : DmaSem sig := 142
abbrev cc11_sem0_0 : DmaSem sig := 143
abbrev cc11_sem0_1 : DmaSem sig := 144
abbrev cc11_sem1_0 : DmaSem sig := 145
abbrev cc11_sem1_1 : DmaSem sig := 146
abbrev cc11_sem2_0 : DmaSem sig := 147
abbrev cc11_sem3_0 : DmaSem sig := 148
abbrev cc11_sem4_0 : DmaSem sig := 149
abbrev cc11_sem5_0 : DmaSem sig := 150
abbrev cc11_sem5_1 : DmaSem sig := 151
abbrev cc11_sem6_0 : DmaSem sig := 152
abbrev cc11_sem6_1 : DmaSem sig := 153
abbrev cc11_sem7_0 : DmaSem sig := 154
abbrev cc11_sem7_1 : DmaSem sig := 155
abbrev cc12_sem0_0 : DmaSem sig := 156
abbrev cc12_sem0_1 : DmaSem sig := 157
abbrev cc12_sem1_0 : DmaSem sig := 158
abbrev cc12_sem1_1 : DmaSem sig := 159
abbrev cc12_sem2_0 : DmaSem sig := 160
abbrev cc12_sem3_0 : DmaSem sig := 161
abbrev cc12_sem4_0 : DmaSem sig := 162
abbrev cc12_sem5_0 : DmaSem sig := 163
abbrev cc12_sem5_1 : DmaSem sig := 164
abbrev cc12_sem6_0 : DmaSem sig := 165
abbrev cc12_sem6_1 : DmaSem sig := 166
abbrev cc12_sem7_0 : DmaSem sig := 167
abbrev cc12_sem7_1 : DmaSem sig := 168
abbrev cc13_sem0_0 : DmaSem sig := 169
abbrev cc13_sem0_1 : DmaSem sig := 170
abbrev cc13_sem1_0 : DmaSem sig := 171
abbrev cc13_sem1_1 : DmaSem sig := 172
abbrev cc13_sem2_0 : DmaSem sig := 173
abbrev cc13_sem3_0 : DmaSem sig := 174
abbrev cc13_sem4_0 : DmaSem sig := 175
abbrev cc13_sem5_0 : DmaSem sig := 176
abbrev cc13_sem5_1 : DmaSem sig := 177
abbrev cc13_sem6_0 : DmaSem sig := 178
abbrev cc13_sem6_1 : DmaSem sig := 179
abbrev cc13_sem7_0 : DmaSem sig := 180
abbrev cc13_sem7_1 : DmaSem sig := 181
abbrev cc14_sem0_0 : DmaSem sig := 182
abbrev cc14_sem0_1 : DmaSem sig := 183
abbrev cc14_sem1_0 : DmaSem sig := 184
abbrev cc14_sem1_1 : DmaSem sig := 185
abbrev cc14_sem2_0 : DmaSem sig := 186
abbrev cc14_sem3_0 : DmaSem sig := 187
abbrev cc14_sem4_0 : DmaSem sig := 188
abbrev cc14_sem5_0 : DmaSem sig := 189
abbrev cc14_sem5_1 : DmaSem sig := 190
abbrev cc14_sem6_0 : DmaSem sig := 191
abbrev cc14_sem6_1 : DmaSem sig := 192
abbrev cc14_sem7_0 : DmaSem sig := 193
abbrev cc14_sem7_1 : DmaSem sig := 194
abbrev cc15_sem0_0 : DmaSem sig := 195
abbrev cc15_sem0_1 : DmaSem sig := 196
abbrev cc15_sem1_0 : DmaSem sig := 197
abbrev cc15_sem1_1 : DmaSem sig := 198
abbrev cc15_sem2_0 : DmaSem sig := 199
abbrev cc15_sem3_0 : DmaSem sig := 200
abbrev cc15_sem4_0 : DmaSem sig := 201
abbrev cc15_sem5_0 : DmaSem sig := 202
abbrev cc15_sem5_1 : DmaSem sig := 203
abbrev cc15_sem6_0 : DmaSem sig := 204
abbrev cc15_sem6_1 : DmaSem sig := 205
abbrev cc15_sem7_0 : DmaSem sig := 206
abbrev cc15_sem7_1 : DmaSem sig := 207
abbrev cc16_sem0_0 : DmaSem sig := 208
abbrev cc16_sem0_1 : DmaSem sig := 209
abbrev cc16_sem1_0 : DmaSem sig := 210
abbrev cc16_sem1_1 : DmaSem sig := 211
abbrev cc16_sem2_0 : DmaSem sig := 212
abbrev cc16_sem3_0 : DmaSem sig := 213
abbrev cc16_sem4_0 : DmaSem sig := 214
abbrev cc16_sem5_0 : DmaSem sig := 215
abbrev cc16_sem5_1 : DmaSem sig := 216
abbrev cc16_sem6_0 : DmaSem sig := 217
abbrev cc16_sem6_1 : DmaSem sig := 218
abbrev cc16_sem7_0 : DmaSem sig := 219
abbrev cc16_sem7_1 : DmaSem sig := 220
abbrev cc17_sem0_0 : DmaSem sig := 221
abbrev cc17_sem0_1 : DmaSem sig := 222
abbrev cc17_sem1_0 : DmaSem sig := 223
abbrev cc17_sem1_1 : DmaSem sig := 224
abbrev cc17_sem2_0 : DmaSem sig := 225
abbrev cc17_sem3_0 : DmaSem sig := 226
abbrev cc17_sem4_0 : DmaSem sig := 227
abbrev cc17_sem5_0 : DmaSem sig := 228
abbrev cc17_sem5_1 : DmaSem sig := 229
abbrev cc17_sem6_0 : DmaSem sig := 230
abbrev cc17_sem6_1 : DmaSem sig := 231
abbrev cc17_sem7_0 : DmaSem sig := 232
abbrev cc17_sem7_1 : DmaSem sig := 233
abbrev cc18_sem0_0 : DmaSem sig := 234
abbrev cc18_sem0_1 : DmaSem sig := 235
abbrev cc18_sem1_0 : DmaSem sig := 236
abbrev cc18_sem1_1 : DmaSem sig := 237
abbrev cc18_sem2_0 : DmaSem sig := 238
abbrev cc18_sem3_0 : DmaSem sig := 239
abbrev cc18_sem4_0 : DmaSem sig := 240
abbrev cc18_sem5_0 : DmaSem sig := 241
abbrev cc18_sem5_1 : DmaSem sig := 242
abbrev cc18_sem6_0 : DmaSem sig := 243
abbrev cc18_sem6_1 : DmaSem sig := 244
abbrev cc18_sem7_0 : DmaSem sig := 245
abbrev cc18_sem7_1 : DmaSem sig := 246
abbrev cc19_sem0_0 : DmaSem sig := 247
abbrev cc19_sem0_1 : DmaSem sig := 248
abbrev cc19_sem1_0 : DmaSem sig := 249
abbrev cc19_sem1_1 : DmaSem sig := 250
abbrev cc19_sem2_0 : DmaSem sig := 251
abbrev cc19_sem3_0 : DmaSem sig := 252
abbrev cc19_sem4_0 : DmaSem sig := 253
abbrev cc19_sem5_0 : DmaSem sig := 254
abbrev cc19_sem5_1 : DmaSem sig := 255
abbrev cc19_sem6_0 : DmaSem sig := 256
abbrev cc19_sem6_1 : DmaSem sig := 257
abbrev cc19_sem7_0 : DmaSem sig := 258
abbrev cc19_sem7_1 : DmaSem sig := 259

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4096x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4096x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x4096 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4096x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4096x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x4096 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4096x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S4096x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S4096x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x4096 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4096x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4096x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S4096x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x4096 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4096x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4096x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S4096x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x4096 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4096x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S4096x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S4096x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4096x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x4096 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4096x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S4096x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S4096x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x4096 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4096x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S4096x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S4096x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4096x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x4096 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S512x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x512 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S4096x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S4096x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 2 → Memref sig .tc .vmem S4096x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4096x512 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x4096 .i32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S512x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x512 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S4096x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S4096x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 2 → Memref sig .tc .vmem S4096x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4096x512 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x4096 .i32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S512x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x512 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S4096x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S4096x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S4096x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4096x512 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x4096 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S64x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S512x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x512 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S4096x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S4096x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev stage13_7 : Fin 2 → Memref sig .tc .vmem S4096x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![4], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![c0_i32.toNat, arg0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4096x512 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1x4096 .i32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S64x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S512x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x512 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S4096x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev stage14_6 : Fin 2 → Memref sig .tc .vmem S4096x128 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev stage14_7 : Fin 2 → Memref sig .tc .vmem S4096x128 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev grid15 : Pipeline.Grid := ⟨1, ![4], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![c0_i32.toNat, arg0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_6 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_7 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4096x512 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x4096 .i32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S64x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S512x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x512 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S4096x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev stage15_6 : Fin 2 → Memref sig .tc .vmem S4096x128 .f32 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

abbrev stage15_7 : Fin 2 → Memref sig .tc .vmem S4096x128 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true]

abbrev grid16 : Pipeline.Grid := ⟨1, ![4], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![c0_i32.toNat, arg0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_7 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S4096x512 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S1x4096 .i32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S64x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S512x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x512 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S4096x128 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev stage16_6 : Fin 2 → Memref sig .tc .vmem S4096x128 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

abbrev stage16_7 : Fin 2 → Memref sig .tc .vmem S4096x128 .f32 := fun | 0 => Memref.whole cc16_stg7_0 | 1 => Memref.whole cc16_stg7_1 | ⟨_ + 2, h⟩ => absurd h (Nat.not_lt.2 (Nat.le_add_left _ _))
abbrev sem16_7 : Fin 2 → DmaSem sig := fun | 0 => cc16_sem7_0 | 1 => cc16_sem7_1 | ⟨_ + 2, h⟩ => absurd h (Nat.not_lt.2 (Nat.le_add_left _ _))
abbrev reads16_7 : Fin grid16.rank → Bool := ![true]

abbrev grid17 : Pipeline.Grid := ⟨1, ![4], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![c0_i32.toNat, arg0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_6 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_7 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S4096x512 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S1x4096 .i32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 1 → Memref sig .tc .vmem S64x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S512x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x512 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S4096x128 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev stage17_6 : Fin 2 → Memref sig .tc .vmem S4096x128 .f32 := fun | 0 => Memref.whole cc17_stg6_0 | 1 => Memref.whole cc17_stg6_1 | ⟨_ + 2, h⟩ => absurd h (Nat.not_lt.2 (Nat.le_add_left _ _))
abbrev sem17_6 : Fin 2 → DmaSem sig := fun | 0 => cc17_sem6_0 | 1 => cc17_sem6_1 | ⟨_ + 2, h⟩ => absurd h (Nat.not_lt.2 (Nat.le_add_left _ _))
abbrev reads17_6 : Fin grid17.rank → Bool := ![true]

abbrev stage17_7 : Fin 2 → Memref sig .tc .vmem S4096x128 .f32 := fun | 0 => Memref.whole cc17_stg7_0 | 1 => Memref.whole cc17_stg7_1 | ⟨_ + 2, h⟩ => absurd h (Nat.not_lt.2 (Nat.le_add_left _ _))
abbrev sem17_7 : Fin 2 → DmaSem sig := fun | 0 => cc17_sem7_0 | 1 => cc17_sem7_1 | ⟨_ + 2, h⟩ => absurd h (Nat.not_lt.2 (Nat.le_add_left _ _))
abbrev reads17_7 : Fin grid17.rank → Bool := ![true]

abbrev grid18 : Pipeline.Grid := ⟨1, ![4], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![c0_i32.toNat, arg0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_6 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_7 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S4096x512 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S1x4096 .i32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S64x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S512x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x512 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S4096x128 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev stage18_6 : Fin 2 → Memref sig .tc .vmem S4096x128 .f32 := fun | 0 => Memref.whole cc18_stg6_0 | 1 => Memref.whole cc18_stg6_1 | ⟨_ + 2, h⟩ => absurd h (Nat.not_lt.2 (Nat.le_add_left _ _))
abbrev sem18_6 : Fin 2 → DmaSem sig := fun | 0 => cc18_sem6_0 | 1 => cc18_sem6_1 | ⟨_ + 2, h⟩ => absurd h (Nat.not_lt.2 (Nat.le_add_left _ _))
abbrev reads18_6 : Fin grid18.rank → Bool := ![true]

abbrev stage18_7 : Fin 2 → Memref sig .tc .vmem S4096x128 .f32 := fun | 0 => Memref.whole cc18_stg7_0 | 1 => Memref.whole cc18_stg7_1 | ⟨_ + 2, h⟩ => absurd h (Nat.not_lt.2 (Nat.le_add_left _ _))
abbrev sem18_7 : Fin 2 → DmaSem sig := fun | 0 => cc18_sem7_0 | 1 => cc18_sem7_1 | ⟨_ + 2, h⟩ => absurd h (Nat.not_lt.2 (Nat.le_add_left _ _))
abbrev reads18_7 : Fin grid18.rank → Bool := ![true]

abbrev grid19 : Pipeline.Grid := ⟨1, ![4], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![c0_i32.toNat, arg0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_6 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_7 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S4096x512 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S1x4096 .i32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S64x128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S512x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x512 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S4096x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev stage19_6 : Fin 2 → Memref sig .tc .vmem S4096x128 .f32 := fun | 0 => Memref.whole cc19_stg6_0 | 1 => Memref.whole cc19_stg6_1 | ⟨_ + 2, h⟩ => absurd h (Nat.not_lt.2 (Nat.le_add_left _ _))
abbrev sem19_6 : Fin 2 → DmaSem sig := fun | 0 => cc19_sem6_0 | 1 => cc19_sem6_1 | ⟨_ + 2, h⟩ => absurd h (Nat.not_lt.2 (Nat.le_add_left _ _))
abbrev reads19_6 : Fin grid19.rank → Bool := ![true]

abbrev stage19_7 : Fin 2 → Memref sig .tc .vmem S4096x128 .f32 := fun | 0 => Memref.whole cc19_stg7_0 | 1 => Memref.whole cc19_stg7_1 | ⟨_ + 2, h⟩ => absurd h (Nat.not_lt.2 (Nat.le_add_left _ _))
abbrev sem19_7 : Fin 2 → DmaSem sig := fun | 0 => cc19_sem7_0 | 1 => cc19_sem7_1 | ⟨_ + 2, h⟩ => absurd h (Nat.not_lt.2 (Nat.le_add_left _ _))
abbrev reads19_7 : Fin grid19.rank → Bool := ![true]
-- ==== ReferenceIdeal.lean ====
abbrev S16384x20x3 : Shape := ⟨3, ![16384, 20, 3]⟩
abbrev S64x3 : Shape := ⟨2, ![64, 3]⟩
abbrev S64 : Shape := ⟨1, ![64]⟩
abbrev S512x64 : Shape := ⟨2, ![512, 64]⟩
abbrev S512x128 : Shape := ⟨2, ![512, 128]⟩
abbrev S512 : Shape := ⟨1, ![512]⟩
abbrev S5x128 : Shape := ⟨2, ![5, 128]⟩
abbrev S5 : Shape := ⟨1, ![5]⟩
abbrev S3x64 : Shape := ⟨2, ![3, 64]⟩
abbrev S16384x20x64 : Shape := ⟨3, ![16384, 20, 64]⟩
abbrev S1x1x64 : Shape := ⟨3, ![1, 1, 64]⟩
abbrev S_ : Shape := ⟨0, ![]⟩
abbrev S16384x128 : Shape := ⟨2, ![16384, 128]⟩
abbrev S20x16384x3 : Shape := ⟨3, ![20, 16384, 3]⟩
abbrev S20x16384x64 : Shape := ⟨3, ![20, 16384, 64]⟩
abbrev S20x16384x128 : Shape := ⟨3, ![20, 16384, 128]⟩
abbrev S1x16384x3 : Shape := ⟨3, ![1, 16384, 3]⟩
abbrev S16384x3 : Shape := ⟨2, ![16384, 3]⟩
abbrev S1x16384x64 : Shape := ⟨3, ![1, 16384, 64]⟩
abbrev S16384x64 : Shape := ⟨2, ![16384, 64]⟩
abbrev S16384x1 : Shape := ⟨2, ![16384, 1]⟩
abbrev S16384 : Shape := ⟨1, ![16384]⟩
abbrev S64x128 : Shape := ⟨2, ![64, 128]⟩
abbrev S1 : Shape := ⟨1, ![1]⟩
abbrev S1x1 : Shape := ⟨2, ![1, 1]⟩
abbrev S64x512 : Shape := ⟨2, ![64, 512]⟩
abbrev S16384x512 : Shape := ⟨2, ![16384, 512]⟩
abbrev S1x512 : Shape := ⟨2, ![1, 512]⟩
abbrev S128x512 : Shape := ⟨2, ![128, 512]⟩
abbrev S1x16384x128 : Shape := ⟨3, ![1, 16384, 128]⟩
abbrev S128x5 : Shape := ⟨2, ![128, 5]⟩
abbrev S20x16384x5 : Shape := ⟨3, ![20, 16384, 5]⟩
abbrev S1x1x5 : Shape := ⟨3, ![1, 1, 5]⟩
abbrev S16384x20x5 : Shape := ⟨3, ![16384, 20, 5]⟩

abbrev nBuf : Space → Nat
  | .hbm => 189
  | .vmem => 0
  | .smem => 0
  | _ => 0

abbrev hbmTy0_0 (i : Nat) : BufTy := match i % 128 with
  | 0 => ⟨S16384x20x3, .f32⟩
  | 1 => ⟨S64x3, .f32⟩
  | 2 => ⟨S64, .f32⟩
  | 3 => ⟨S512x64, .f32⟩
  | 4 => ⟨S512x128, .f32⟩
  | 5 => ⟨S512, .f32⟩
  | 6 => ⟨S512, .f32⟩
  | 7 => ⟨S5x128, .f32⟩
  | 8 => ⟨S5, .f32⟩
  | 9 => ⟨S3x64, .f32⟩
  | 10 => ⟨S16384x20x64, .f32⟩
  | 11 => ⟨S1x1x64, .f32⟩
  | 12 => ⟨S16384x20x64, .f32⟩
  | 13 => ⟨S16384x20x64, .f32⟩
  | 14 => ⟨S_, .f32⟩
  | 15 => ⟨S16384x20x64, .f32⟩
  | 16 => ⟨S16384x20x64, .f32⟩
  | 17 => ⟨S_, .f32⟩
  | 18 => ⟨S16384x128, .f32⟩
  | 19 => ⟨S_, .f32⟩
  | 20 => ⟨S16384x128, .f32⟩
  | 21 => ⟨S20x16384x3, .f32⟩
  | 22 => ⟨S20x16384x64, .f32⟩
  | 23 => ⟨S_, .f32⟩
  | 24 => ⟨S20x16384x128, .f32⟩
  | 25 => ⟨S_, .i32⟩
  | 26 => ⟨S20x16384x3, .f32⟩
  | 27 => ⟨S20x16384x64, .f32⟩
  | 28 => ⟨S512x64, .f32⟩
  | 29 => ⟨S512, .f32⟩
  | 30 => ⟨S512x128, .f32⟩
  | 31 => ⟨S512, .f32⟩
  | 32 => ⟨S_, .i32⟩
  | 33 => ⟨S16384x128, .f32⟩
  | 34 => ⟨S16384x128, .f32⟩
  | 35 => ⟨S20x16384x128, .f32⟩
  | 36 => ⟨S_, .i32⟩
  | 37 => ⟨S_, .i1⟩
  | 38 => ⟨S_, .i32⟩
  | 39 => ⟨S_, .i32⟩
  | 40 => ⟨S1x16384x3, .f32⟩
  | 41 => ⟨S16384x3, .f32⟩
  | 42 => ⟨S_, .i32⟩
  | 43 => ⟨S_, .i32⟩
  | 44 => ⟨S1x16384x64, .f32⟩
  | 45 => ⟨S16384x64, .f32⟩
  | 46 => ⟨S16384x1, .f32⟩
  | 47 => ⟨S16384, .f32⟩
  | 48 => ⟨S_, .f32⟩
  | 49 => ⟨S_, .f32⟩
  | 50 => ⟨S_, .f32⟩
  | 51 => ⟨S16384, .f32⟩
  | 52 => ⟨S16384, .f32⟩
  | 53 => ⟨S_, .f32⟩
  | 54 => ⟨S16384, .f32⟩
  | 55 => ⟨S16384, .f32⟩
  | 56 => ⟨S16384x1, .f32⟩
  | 57 => ⟨S16384, .f32⟩
  | 58 => ⟨S_, .f32⟩
  | 59 => ⟨S_, .f32⟩
  | 60 => ⟨S_, .f32⟩
  | 61 => ⟨S16384, .f32⟩
  | 62 => ⟨S16384, .f32⟩
  | 63 => ⟨S_, .f32⟩
  | 64 => ⟨S16384, .f32⟩
  | 65 => ⟨S16384, .f32⟩
  | 66 => ⟨S_, .f32⟩
  | 67 => ⟨S16384, .f32⟩
  | 68 => ⟨S16384, .f32⟩
  | 69 => ⟨S_, .f32⟩
  | 70 => ⟨S16384, .f32⟩
  | 71 => ⟨S16384, .f32⟩
  | 72 => ⟨S16384, .f32⟩
  | 73 => ⟨S16384, .i32⟩
  | 74 => ⟨S_, .i32⟩
  | 75 => ⟨S_, .i32⟩
  | 76 => ⟨S_, .i32⟩
  | 77 => ⟨S16384, .i32⟩
  | 78 => ⟨S16384, .i32⟩
  | 79 => ⟨S_, .i32⟩
  | 80 => ⟨S16384, .i32⟩
  | 81 => ⟨S16384, .i32⟩
  | 82 => ⟨S_, .f32⟩
  | 83 => ⟨S16384, .f32⟩
  | 84 => ⟨S16384, .f32⟩
  | 85 => ⟨S_, .f32⟩
  | 86 => ⟨S16384, .f32⟩
  | 87 => ⟨S16384, .f32⟩
  | 88 => ⟨S16384, .f32⟩
  | 89 => ⟨S16384, .i32⟩
  | 90 => ⟨S_, .i32⟩
  | 91 => ⟨S_, .i32⟩
  | 92 => ⟨S_, .i32⟩
  | 93 => ⟨S16384, .i32⟩
  | 94 => ⟨S16384, .i32⟩
  | 95 => ⟨S_, .i32⟩
  | 96 => ⟨S16384, .i32⟩
  | 97 => ⟨S16384, .i32⟩
  | 98 => ⟨S_, .i32⟩
  | 99 => ⟨S16384, .i32⟩
  | 100 => ⟨S16384, .i32⟩
  | 101 => ⟨S16384, .i32⟩
  | 102 => ⟨S_, .f32⟩
  | 103 => ⟨S64x128, .f32⟩
  | 104 => ⟨S16384x1, .i32⟩
  | 105 => ⟨S64x128, .f32⟩
  | 106 => ⟨S_, .i32⟩
  | 107 => ⟨S16384, .i32⟩
  | 108 => ⟨S16384, .i1⟩
  | 109 => ⟨S_, .i32⟩
  | 110 => ⟨S16384, .i32⟩
  | 111 => ⟨S16384, .i32⟩
  | 112 => ⟨S16384, .i32⟩
  | 113 => ⟨S16384x1, .i32⟩
  | 114 => ⟨S1, .i32⟩
  | 115 => ⟨S_, .i32⟩
  | 116 => ⟨S16384x1, .i32⟩
  | 117 => ⟨S16384x1, .i1⟩
  | 118 => ⟨S1x1, .i32⟩
  | 119 => ⟨S16384x1, .i32⟩
  | 120 => ⟨S16384x1, .i1⟩
  | 121 => ⟨S16384x1, .i1⟩
  | 122 => ⟨S_, .i1⟩
  | 123 => ⟨S16384, .i1⟩
  | 124 => ⟨S16384x128, .f32⟩
  | 125 => ⟨S16384x128, .i1⟩
  | 126 => ⟨S_, .f32⟩
  | 127 => ⟨S16384x128, .f32⟩
  | _ => ⟨S16384x20x3, .f32⟩

abbrev hbmTy0_1 (i : Nat) : BufTy := match i % 128 with
  | 0 => ⟨S16384x128, .f32⟩
  | 1 => ⟨S64x512, .f32⟩
  | 2 => ⟨S16384x512, .f32⟩
  | 3 => ⟨S1x512, .f32⟩
  | 4 => ⟨S16384x512, .f32⟩
  | 5 => ⟨S16384x512, .f32⟩
  | 6 => ⟨S128x512, .f32⟩
  | 7 => ⟨S16384x512, .f32⟩
  | 8 => ⟨S16384x512, .f32⟩
  | 9 => ⟨S1x512, .f32⟩
  | 10 => ⟨S16384x512, .f32⟩
  | 11 => ⟨S16384x512, .f32⟩
  | 12 => ⟨S16384x128, .f32⟩
  | 13 => ⟨S16384x128, .f32⟩
  | 14 => ⟨S16384x128, .f32⟩
  | 15 => ⟨S16384x128, .f32⟩
  | 16 => ⟨S16384x128, .f32⟩
  | 17 => ⟨S16384x128, .f32⟩
  | 18 => ⟨S_, .f32⟩
  | 19 => ⟨S16384x128, .f32⟩
  | 20 => ⟨S16384x128, .f32⟩
  | 21 => ⟨S_, .f32⟩
  | 22 => ⟨S16384x128, .f32⟩
  | 23 => ⟨S16384x128, .f32⟩
  | 24 => ⟨S16384x128, .f32⟩
  | 25 => ⟨S16384x128, .f32⟩
  | 26 => ⟨S_, .f32⟩
  | 27 => ⟨S16384x128, .f32⟩
  | 28 => ⟨S16384x128, .f32⟩
  | 29 => ⟨S_, .f32⟩
  | 30 => ⟨S16384x128, .f32⟩
  | 31 => ⟨S16384x128, .f32⟩
  | 32 => ⟨S16384x128, .f32⟩
  | 33 => ⟨S16384x128, .f32⟩
  | 34 => ⟨S16384x128, .f32⟩
  | 35 => ⟨S_, .f32⟩
  | 36 => ⟨S16384x128, .f32⟩
  | 37 => ⟨S16384x128, .f32⟩
  | 38 => ⟨S_, .f32⟩
  | 39 => ⟨S16384x128, .f32⟩
  | 40 => ⟨S16384x128, .f32⟩
  | 41 => ⟨S16384x128, .f32⟩
  | 42 => ⟨S16384x128, .f32⟩
  | 43 => ⟨S16384x128, .f32⟩
  | 44 => ⟨S16384x128, .f32⟩
  | 45 => ⟨S16384x128, .f32⟩
  | 46 => ⟨S1x16384x128, .f32⟩
  | 47 => ⟨S_, .i32⟩
  | 48 => ⟨S_, .i32⟩
  | 49 => ⟨S20x16384x128, .f32⟩
  | 50 => ⟨S_, .i32⟩
  | 51 => ⟨S_, .i32⟩
  | 52 => ⟨S128x5, .f32⟩
  | 53 => ⟨S20x16384x5, .f32⟩
  | 54 => ⟨S1x1x5, .f32⟩
  | 55 => ⟨S20x16384x5, .f32⟩
  | 56 => ⟨S20x16384x5, .f32⟩
  | 57 => ⟨S16384x20x5, .f32⟩
  | 58 => ⟨S_, .f32⟩
  | 59 => ⟨S_, .f32⟩
  | 60 => ⟨S16384x20x5, .f32⟩
  | _ => ⟨S16384x20x3, .f32⟩

abbrev hbmTy (i : Nat) : BufTy := match i / 128 with
  | 0 => hbmTy0_0 i
  | 1 => hbmTy0_1 i
  | _ => ⟨S16384x20x3, .f32⟩

abbrev bufTy : (tb : Table) → Fin (tcTables nBuf tb) → BufTy
  | .hbm, ⟨i, _⟩ => hbmTy i
  | _, _ => ⟨S16384x20x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_c : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev main_v11_7 : Ref sig .tc := ⟨.hbm, 33, rfl⟩
abbrev main_v11_8 : Ref sig .tc := ⟨.hbm, 34, rfl⟩
abbrev main_v11_9 : Ref sig .tc := ⟨.hbm, 35, rfl⟩
abbrev main_while0c_c_11 : Ref sig .tc := ⟨.hbm, 36, rfl⟩
abbrev main_while0c_v19 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_v0 : Ref sig .tc := ⟨.hbm, 40, rfl⟩
abbrev main_while0b_v19 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_call2_v0 : Ref sig .tc := ⟨.hbm, 44, rfl⟩
abbrev main_while0b_v20 : Ref sig .tc := ⟨.hbm, 45, rfl⟩
abbrev main_while0b_v21 : Ref sig .tc := ⟨.hbm, 46, rfl⟩
abbrev main_while0b_v22 : Ref sig .tc := ⟨.hbm, 47, rfl⟩
abbrev main_while0b_cst_11 : Ref sig .tc := ⟨.hbm, 48, rfl⟩
abbrev main_while0b_cst_12 : Ref sig .tc := ⟨.hbm, 49, rfl⟩
abbrev main_while0b_call3_v0 : Ref sig .tc := ⟨.hbm, 50, rfl⟩
abbrev main_while0b_call3_v1 : Ref sig .tc := ⟨.hbm, 51, rfl⟩
abbrev main_while0b_call3_v2 : Ref sig .tc := ⟨.hbm, 52, rfl⟩
abbrev main_while0b_call3_v3 : Ref sig .tc := ⟨.hbm, 53, rfl⟩
abbrev main_while0b_call3_v4 : Ref sig .tc := ⟨.hbm, 54, rfl⟩
abbrev main_while0b_v23 : Ref sig .tc := ⟨.hbm, 55, rfl⟩
abbrev main_while0b_v24 : Ref sig .tc := ⟨.hbm, 56, rfl⟩
abbrev main_while0b_v25 : Ref sig .tc := ⟨.hbm, 57, rfl⟩
abbrev main_while0b_cst_13 : Ref sig .tc := ⟨.hbm, 58, rfl⟩
abbrev main_while0b_cst_14 : Ref sig .tc := ⟨.hbm, 59, rfl⟩
abbrev main_while0b_call4_v0 : Ref sig .tc := ⟨.hbm, 60, rfl⟩
abbrev main_while0b_call4_v1 : Ref sig .tc := ⟨.hbm, 61, rfl⟩
abbrev main_while0b_call4_v2 : Ref sig .tc := ⟨.hbm, 62, rfl⟩
abbrev main_while0b_call4_v3 : Ref sig .tc := ⟨.hbm, 63, rfl⟩
abbrev main_while0b_call4_v4 : Ref sig .tc := ⟨.hbm, 64, rfl⟩
abbrev main_while0b_v26 : Ref sig .tc := ⟨.hbm, 65, rfl⟩
abbrev main_while0b_cst_15 : Ref sig .tc := ⟨.hbm, 66, rfl⟩
abbrev main_while0b_v27 : Ref sig .tc := ⟨.hbm, 67, rfl⟩
abbrev main_while0b_v28 : Ref sig .tc := ⟨.hbm, 68, rfl⟩
abbrev main_while0b_cst_16 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_c_17 : Ref sig .tc := ⟨.hbm, 74, rfl⟩
abbrev main_while0b_c_18 : Ref sig .tc := ⟨.hbm, 75, rfl⟩
abbrev main_while0b_call5_v0 : Ref sig .tc := ⟨.hbm, 76, rfl⟩
abbrev main_while0b_call5_v1 : Ref sig .tc := ⟨.hbm, 77, rfl⟩
abbrev main_while0b_call5_v2 : Ref sig .tc := ⟨.hbm, 78, rfl⟩
abbrev main_while0b_call5_v3 : Ref sig .tc := ⟨.hbm, 79, rfl⟩
abbrev main_while0b_call5_v4 : Ref sig .tc := ⟨.hbm, 80, rfl⟩
abbrev main_while0b_v33 : Ref sig .tc := ⟨.hbm, 81, rfl⟩
abbrev main_while0b_cst_19 : Ref sig .tc := ⟨.hbm, 82, rfl⟩
abbrev main_while0b_v34 : Ref sig .tc := ⟨.hbm, 83, rfl⟩
abbrev main_while0b_v35 : Ref sig .tc := ⟨.hbm, 84, rfl⟩
abbrev main_while0b_cst_20 : Ref sig .tc := ⟨.hbm, 85, rfl⟩
abbrev main_while0b_v36 : Ref sig .tc := ⟨.hbm, 86, rfl⟩
abbrev main_while0b_v37 : Ref sig .tc := ⟨.hbm, 87, rfl⟩
abbrev main_while0b_v38 : Ref sig .tc := ⟨.hbm, 88, rfl⟩
abbrev main_while0b_v39 : Ref sig .tc := ⟨.hbm, 89, rfl⟩
abbrev main_while0b_c_21 : Ref sig .tc := ⟨.hbm, 90, rfl⟩
abbrev main_while0b_c_22 : Ref sig .tc := ⟨.hbm, 91, rfl⟩
abbrev main_while0b_call6_v0 : Ref sig .tc := ⟨.hbm, 92, rfl⟩
abbrev main_while0b_call6_v1 : Ref sig .tc := ⟨.hbm, 93, rfl⟩
abbrev main_while0b_call6_v2 : Ref sig .tc := ⟨.hbm, 94, rfl⟩
abbrev main_while0b_call6_v3 : Ref sig .tc := ⟨.hbm, 95, rfl⟩
abbrev main_while0b_call6_v4 : Ref sig .tc := ⟨.hbm, 96, rfl⟩
abbrev main_while0b_v40 : Ref sig .tc := ⟨.hbm, 97, rfl⟩
abbrev main_while0b_c_23 : Ref sig .tc := ⟨.hbm, 98, rfl⟩
abbrev main_while0b_v41 : Ref sig .tc := ⟨.hbm, 99, rfl⟩
abbrev main_while0b_v42 : Ref sig .tc := ⟨.hbm, 100, rfl⟩
abbrev main_while0b_v43 : Ref sig .tc := ⟨.hbm, 101, rfl⟩
abbrev main_while0b_cst_24 : Ref sig .tc := ⟨.hbm, 102, rfl⟩
abbrev main_while0b_v44 : Ref sig .tc := ⟨.hbm, 103, rfl⟩
abbrev main_while0b_v45 : Ref sig .tc := ⟨.hbm, 104, rfl⟩
abbrev main_while0b_v46 : Ref sig .tc := ⟨.hbm, 105, rfl⟩
abbrev main_while0b_call7_c : Ref sig .tc := ⟨.hbm, 106, rfl⟩
abbrev main_while0b_call7_v0 : Ref sig .tc := ⟨.hbm, 107, rfl⟩
abbrev main_while0b_call7_v1 : Ref sig .tc := ⟨.hbm, 108, rfl⟩
abbrev main_while0b_call7_c_0 : Ref sig .tc := ⟨.hbm, 109, rfl⟩
abbrev main_while0b_call7_v2 : Ref sig .tc := ⟨.hbm, 110, rfl⟩
abbrev main_while0b_call7_v3 : Ref sig .tc := ⟨.hbm, 111, rfl⟩
abbrev main_while0b_call7_v4 : Ref sig .tc := ⟨.hbm, 112, rfl⟩
abbrev main_while0b_call7_v5 : Ref sig .tc := ⟨.hbm, 113, rfl⟩
abbrev main_while0b_call7_c_1 : Ref sig .tc := ⟨.hbm, 114, rfl⟩
abbrev main_while0b_call7_c_2 : Ref sig .tc := ⟨.hbm, 115, rfl⟩
abbrev main_while0b_call7_v6 : Ref sig .tc := ⟨.hbm, 116, rfl⟩
abbrev main_while0b_call7_v7 : Ref sig .tc := ⟨.hbm, 117, rfl⟩
abbrev main_while0b_call7_v8 : Ref sig .tc := ⟨.hbm, 118, rfl⟩
abbrev main_while0b_call7_v9 : Ref sig .tc := ⟨.hbm, 119, rfl⟩
abbrev main_while0b_call7_v10 : Ref sig .tc := ⟨.hbm, 120, rfl⟩
abbrev main_while0b_call7_v11 : Ref sig .tc := ⟨.hbm, 121, rfl⟩
abbrev main_while0b_call7_c_3 : Ref sig .tc := ⟨.hbm, 122, rfl⟩
abbrev main_while0b_call7_v12 : Ref sig .tc := ⟨.hbm, 123, rfl⟩
abbrev main_while0b_call7_v13 : Ref sig .tc := ⟨.hbm, 124, rfl⟩
abbrev main_while0b_call7_v14 : Ref sig .tc := ⟨.hbm, 125, rfl⟩
abbrev main_while0b_call7_cst : Ref sig .tc := ⟨.hbm, 126, rfl⟩
abbrev main_while0b_call7_v15 : Ref sig .tc := ⟨.hbm, 127, rfl⟩
abbrev main_while0b_v47 : Ref sig .tc := ⟨.hbm, 128, rfl⟩
abbrev main_while0b_v48 : Ref sig .tc := ⟨.hbm, 129, rfl⟩
abbrev main_while0b_v49 : Ref sig .tc := ⟨.hbm, 130, rfl⟩
abbrev main_while0b_v50 : Ref sig .tc := ⟨.hbm, 131, rfl⟩
abbrev main_while0b_v51 : Ref sig .tc := ⟨.hbm, 132, rfl⟩
abbrev main_while0b_v52 : Ref sig .tc := ⟨.hbm, 133, rfl⟩
abbrev main_while0b_v53 : Ref sig .tc := ⟨.hbm, 134, rfl⟩
abbrev main_while0b_v54 : Ref sig .tc := ⟨.hbm, 135, rfl⟩
abbrev main_while0b_v55 : Ref sig .tc := ⟨.hbm, 136, rfl⟩
abbrev main_while0b_v56 : Ref sig .tc := ⟨.hbm, 137, rfl⟩
abbrev main_while0b_v57 : Ref sig .tc := ⟨.hbm, 138, rfl⟩
abbrev main_while0b_v58 : Ref sig .tc := ⟨.hbm, 139, rfl⟩
abbrev main_while0b_v59 : Ref sig .tc := ⟨.hbm, 140, rfl⟩
abbrev main_while0b_v60 : Ref sig .tc := ⟨.hbm, 141, rfl⟩
abbrev main_while0b_v61 : Ref sig .tc := ⟨.hbm, 142, rfl⟩
abbrev main_while0b_v62 : Ref sig .tc := ⟨.hbm, 143, rfl⟩
abbrev main_while0b_v63 : Ref sig .tc := ⟨.hbm, 144, rfl⟩
abbrev main_while0b_v64 : Ref sig .tc := ⟨.hbm, 145, rfl⟩
abbrev main_while0b_cst_25 : Ref sig .tc := ⟨.hbm, 146, rfl⟩
abbrev main_while0b_v65 : Ref sig .tc := ⟨.hbm, 147, rfl⟩
abbrev main_while0b_v66 : Ref sig .tc := ⟨.hbm, 148, rfl⟩
abbrev main_while0b_cst_26 : Ref sig .tc := ⟨.hbm, 149, rfl⟩
abbrev main_while0b_v67 : Ref sig .tc := ⟨.hbm, 150, rfl⟩
abbrev main_while0b_v68 : Ref sig .tc := ⟨.hbm, 151, rfl⟩
abbrev main_while0b_v69 : Ref sig .tc := ⟨.hbm, 152, rfl⟩
abbrev main_while0b_v70 : Ref sig .tc := ⟨.hbm, 153, rfl⟩
abbrev main_while0b_cst_27 : Ref sig .tc := ⟨.hbm, 154, rfl⟩
abbrev main_while0b_v71 : Ref sig .tc := ⟨.hbm, 155, rfl⟩
abbrev main_while0b_v72 : Ref sig .tc := ⟨.hbm, 156, rfl⟩
abbrev main_while0b_cst_28 : Ref sig .tc := ⟨.hbm, 157, rfl⟩
abbrev main_while0b_v73 : Ref sig .tc := ⟨.hbm, 158, rfl⟩
abbrev main_while0b_v74 : Ref sig .tc := ⟨.hbm, 159, rfl⟩
abbrev main_while0b_v75 : Ref sig .tc := ⟨.hbm, 160, rfl⟩
abbrev main_while0b_v76 : Ref sig .tc := ⟨.hbm, 161, rfl⟩
abbrev main_while0b_v77 : Ref sig .tc := ⟨.hbm, 162, rfl⟩
abbrev main_while0b_cst_29 : Ref sig .tc := ⟨.hbm, 163, rfl⟩
abbrev main_while0b_v78 : Ref sig .tc := ⟨.hbm, 164, rfl⟩
abbrev main_while0b_v79 : Ref sig .tc := ⟨.hbm, 165, rfl⟩
abbrev main_while0b_cst_30 : Ref sig .tc := ⟨.hbm, 166, rfl⟩
abbrev main_while0b_v80 : Ref sig .tc := ⟨.hbm, 167, rfl⟩
abbrev main_while0b_v81 : Ref sig .tc := ⟨.hbm, 168, rfl⟩
abbrev main_while0b_v82 : Ref sig .tc := ⟨.hbm, 169, rfl⟩
abbrev main_while0b_v83 : Ref sig .tc := ⟨.hbm, 170, rfl⟩
abbrev main_while0b_v84 : Ref sig .tc := ⟨.hbm, 171, rfl⟩
abbrev main_while0b_v85 : Ref sig .tc := ⟨.hbm, 172, rfl⟩
abbrev main_while0b_v86 : Ref sig .tc := ⟨.hbm, 173, rfl⟩
abbrev main_while0b_call8_v0 : Ref sig .tc := ⟨.hbm, 174, rfl⟩
abbrev main_while0b_call8_c : Ref sig .tc := ⟨.hbm, 175, rfl⟩
abbrev main_while0b_call8_c_0 : Ref sig .tc := ⟨.hbm, 176, rfl⟩
abbrev main_while0b_v87 : Ref sig .tc := ⟨.hbm, 177, rfl⟩
abbrev main_while0b_c_31 : Ref sig .tc := ⟨.hbm, 178, rfl⟩
abbrev main_while0b_v88 : Ref sig .tc := ⟨.hbm, 179, rfl⟩
abbrev main_v12 : Ref sig .tc := ⟨.hbm, 180, rfl⟩
abbrev main_v13 : Ref sig .tc := ⟨.hbm, 181, rfl⟩
abbrev main_v14 : Ref sig .tc := ⟨.hbm, 182, rfl⟩
abbrev main_v15 : Ref sig .tc := ⟨.hbm, 183, rfl⟩
abbrev main_v16 : Ref sig .tc := ⟨.hbm, 184, rfl⟩
abbrev main_v17 : Ref sig .tc := ⟨.hbm, 185, rfl⟩
abbrev main_call9_call0_cst : Ref sig .tc := ⟨.hbm, 186, rfl⟩
abbrev main_call9_call0_v0 : Ref sig .tc := ⟨.hbm, 187, rfl⟩
abbrev main_v18 : Ref sig .tc := ⟨.hbm, 188, rfl⟩

abbrev nD : Nat := 1
abbrev τ : Topo := Topo.v7x

variable {F : FTy → Type} [FloatOps F]

abbrev main_while0_count : Scf.Loop 32 := ⟨0#32, 20#32, 1#32⟩
-- ==== Proof.Cell.lean ====
module

public import proofs.«01_k».proof.Proof.Gen.KernelIdeal.Skeleton
public import Idealize.ShloMosaic.Lib.Pointwise
public import Idealize.ShloMosaic.Lib.IdealHost

/-! One step of the cell, as functions of rows and columns over the extended reals, and the kernel's two
stored values as that step on the blocks it loads. -/

@[expose] public section

noncomputable section

namespace Cert.Social

open Idealize.ShloMosaic
open Cert.KernelIdeal (S16384x128 S16384x512 S64x128 S512x128 S1x512 S1x16384 S4096x128 S4096x512 S1x4096)
open scoped BigOperators

/-- The cell number that a 32-bit word names. -/
def cellOf (b : BitVec 32) : Fin 64 := ⟨b.toNat % 64, Nat.mod_lt _ (by decide)⟩

/-- The word of the cell number that a word below 64 names is the word itself. -/
theorem ofNat_cellOf {b : BitVec 32} (h : b.toNat < 64) : BitVec.ofNat 32 (cellOf b).val = b := by
  show BitVec.ofNat 32 (b.toNat % 64) = b
  rw [Nat.mod_eq_of_lt h, BitVec.ofNat_toNat, BitVec.setWidth_eq]

/-- The four gates of every row: the input's share, the neighbourhood sum of the row's cell through the recurrent
    weights, and the recurrent bias. -/
def gates {M : Nat} (ge : Fin M → Fin 512 → EReal) (g : Fin M → Fin 64) (sums : Fin 64 → Fin 128 → EReal)
    (whh : Fin 512 → Fin 128 → EReal) (b : Fin 512 → EReal) (n : Fin M) (j : Fin 512) : EReal :=
  (ge n j + ∑ k : Fin 128, sums (g n) k * whh j k) + b j

/-- Column `j` of the input gate. -/
def colI (j : Fin 128) : Fin 512 := ⟨j.val, by omega⟩
/-- Column `j` of the forget gate. -/
def colF (j : Fin 128) : Fin 512 := ⟨128 + j.val, by omega⟩
/-- Column `j` of the candidate. -/
def colG (j : Fin 128) : Fin 512 := ⟨256 + j.val, by omega⟩
/-- Column `j` of the output gate. -/
def colO (j : Fin 128) : Fin 512 := ⟨384 + j.val, by omega⟩

/-- The next cell state from the gates and the cell state. -/
def cNext {M : Nat} (gt : Fin M → Fin 512 → EReal) (c : Fin M → Fin 128 → EReal) (n : Fin M) (j : Fin 128) : EReal :=
  Ideal.logistic (gt n (colF j)) * c n j + Ideal.logistic (gt n (colI j)) * Ideal.tanh (gt n (colG j))

/-- The next hidden state from the gates and the cell state. -/
def hNext {M : Nat} (gt : Fin M → Fin 512 → EReal) (c : Fin M → Fin 128 → EReal) (n : Fin M) (j : Fin 128) : EReal :=
  Ideal.logistic (gt n (colO j)) * Ideal.tanh (cNext gt c n j)

/-- A matrix as a function of row and column. -/
abbrev mat {α : Type} {n0 n1 : Nat} (x : (⟨2, ![n0, n1]⟩ : Shape).Idx → α) (a : Fin n0) (b : Fin n1) : α := x (ix2 a b)

/-- A one-hot row picks out the summand of its cell. -/
theorem sum_onehot (b : BitVec 32) (h : b.toNat < 64) (f : Fin 64 → EReal) :
    (∑ k : Fin 64, (((BitVec.setWidth 32 (IntOp.cmpi .eq (BitVec.ofNat 32 k.val) b)).toInt : ℝ) : EReal) * f k) = f (cellOf b) := by
  rw [Finset.sum_eq_single (cellOf b)]
  · rw [ofNat_cellOf h]
    have : (BitVec.setWidth 32 (IntOp.cmpi .eq b b)).toInt = 1 := by
      simp [IntOp.cmpi]
    rw [this]; simp
  · intro k _ hk
    have hne : ¬ BitVec.ofNat 32 k.val = b := fun e => hk (by
      apply Fin.ext
      show k.val = b.toNat % 64
      rw [← e, BitVec.toNat_ofNat]
      have := k.isLt
      omega)
    have : (BitVec.setWidth 32 (IntOp.cmpi .eq (BitVec.ofNat 32 k.val) b)).toInt = 0 := by
      have hb : (BitVec.ofNat 32 k.val == b) = false := beq_eq_false_iff_ne.2 hne
      simp [IntOp.cmpi, hb]
    rw [this]; simp
  · intro h; exact absurd (Finset.mem_univ _) h

open Cert.KernelIdeal.Gen in
/-- The gates the kernel computes on a block. -/
theorem pay1_apply (x0 : Vec Ideal S4096x512 .f32) (x1 : Vec Ideal S1x4096 .i32) (x2 : Vec Ideal S64x128 .f32)
    (x3 : Vec Ideal S512x128 .f32) (x4 : Vec Ideal S1x512 .f32) (r : Fin 4096) (j : Fin 512)
    (h : (x1 (ix2 0 r)).toNat < 64) :
    k0_pay1 x1 x2 x3 x0 x4 (ix2 r j)
      = gates (mat x0) (fun r => cellOf (x1 (ix2 0 r))) (mat x2) (mat x3) (mat x4 0) r j := by
  unfold gates
  pointwise [k0_pay1]
  refine congrArg (· + x4 (ix2 0 j)) (congrArg (x0 (ix2 r j) + ·) (Finset.sum_congr rfl fun k _ => ?_))
  exact congrArg (· * x3 (ix2 j k)) (sum_onehot (x1 (ix2 0 r)) h fun g => x2 (ix2 g k))

open Cert.KernelIdeal.Gen in
/-- The cell state the kernel stores, on a block. -/
theorem pay2_apply (x0 : Vec Ideal S4096x512 .f32) (x1 : Vec Ideal S1x4096 .i32) (x2 : Vec Ideal S64x128 .f32)
    (x3 : Vec Ideal S512x128 .f32) (x4 : Vec Ideal S1x512 .f32) (x5 : Vec Ideal S4096x128 .f32) (r : Fin 4096) (j : Fin 128)
    (h : (x1 (ix2 0 r)).toNat < 64) :
    k0_pay2 x1 x2 x3 x0 x4 x5 (ix2 r j)
      = cNext (gates (mat x0) (fun r => cellOf (x1 (ix2 0 r))) (mat x2) (mat x3) (mat x4 0)) (mat x5) r j := by
  unfold cNext
  simp only [← pay1_apply x0 x1 x2 x3 x4 r _ h]
  pointwise [k0_pay2]
  rfl

open Cert.KernelIdeal.Gen in
/-- The hidden state the kernel stores, on a block. -/
theorem pay3_apply (x0 : Vec Ideal S4096x512 .f32) (x1 : Vec Ideal S1x4096 .i32) (x2 : Vec Ideal S64x128 .f32)
    (x3 : Vec Ideal S512x128 .f32) (x4 : Vec Ideal S1x512 .f32) (x5 : Vec Ideal S4096x128 .f32) (r : Fin 4096) (j : Fin 128)
    (h : (x1 (ix2 0 r)).toNat < 64) :
    k0_pay3 x1 x2 x3 x0 x4 x5 (ix2 r j)
      = hNext (gates (mat x0) (fun r => cellOf (x1 (ix2 0 r))) (mat x2) (mat x3) (mat x4 0)) (mat x5) r j := by
  unfold hNext
  rw [← pay2_apply x0 x1 x2 x3 x4 x5 r j h]
  simp only [← pay1_apply x0 x1 x2 x3 x4 r _ h]
  pointwise [k0_pay3]
  rfl

/-- The next hidden state as an array, from the arrays a kernel launch reads. -/
def stepH (ge : Vec Ideal S16384x512 .f32) (gid : Vec Ideal S1x16384 .i32) (sums : Vec Ideal S64x128 .f32)
    (whh : Vec Ideal S512x128 .f32) (b : Vec Ideal S1x512 .f32) (cp : Vec Ideal S16384x128 .f32) :
    Vec Ideal S16384x128 .f32 := fun i =>
  hNext (gates (mat ge) (fun r => cellOf (gid (ix2 0 r))) (mat sums) (mat whh) (mat b 0)) (mat cp) (i 0) (i 1)

/-- The next cell state as an array, from the arrays a kernel launch reads. -/
def stepC (ge : Vec Ideal S16384x512 .f32) (gid : Vec Ideal S1x16384 .i32) (sums : Vec Ideal S64x128 .f32)
    (whh : Vec Ideal S512x128 .f32) (b : Vec Ideal S1x512 .f32) (cp : Vec Ideal S16384x128 .f32) :
    Vec Ideal S16384x128 .f32 := fun i =>
  cNext (gates (mat ge) (fun r => cellOf (gid (ix2 0 r))) (mat sums) (mat whh) (mat b 0)) (mat cp) (i 0) (i 1)

section Block
variable {x0 : Vec Ideal S4096x512 .f32} {x1 : Vec Ideal S1x4096 .i32} {x2 : Vec Ideal S64x128 .f32}
  {x3 : Vec Ideal S512x128 .f32} {x4 : Vec Ideal S1x512 .f32} {x5 : Vec Ideal S4096x128 .f32}
  {ge : Vec Ideal S16384x512 .f32} {gid : Vec Ideal S1x16384 .i32} {sums : Vec Ideal S64x128 .f32}
  {whh : Vec Ideal S512x128 .f32} {b : Vec Ideal S1x512 .f32} {cp : Vec Ideal S16384x128 .f32}
  {y : S4096x128.Idx} {i : S16384x128.Idx}

/-- A block whose row `y 0` is row `i 0` of the arrays has that row's gates. -/
theorem gates_block (h0 : ∀ j, x0 (ix2 (y 0) j) = ge (ix2 (i 0) j)) (h1 : x1 (ix2 0 (y 0)) = gid (ix2 0 (i 0)))
    (h2 : ∀ g k, x2 (ix2 g k) = sums (ix2 g k)) (h3 : ∀ j k, x3 (ix2 j k) = whh (ix2 j k))
    (h4 : ∀ j, x4 (ix2 0 j) = b (ix2 0 j)) (j : Fin 512) :
    gates (mat x0) (fun r => cellOf (x1 (ix2 0 r))) (mat x2) (mat x3) (mat x4 0) (y 0) j
      = gates (mat ge) (fun r => cellOf (gid (ix2 0 r))) (mat sums) (mat whh) (mat b 0) (i 0) j := by
  simp only [gates, mat, h0, h1, h2, h3, h4]

open Cert.KernelIdeal.Gen in
/-- The kernel's hidden-state store on a block is the array's next hidden state under the block. -/
theorem block_h (hg : ∀ n, (gid (ix2 0 n)).toNat < 64)
    (h0 : ∀ j, x0 (ix2 (y 0) j) = ge (ix2 (i 0) j)) (h1 : x1 (ix2 0 (y 0)) = gid (ix2 0 (i 0)))
    (h2 : ∀ g k, x2 (ix2 g k) = sums (ix2 g k)) (h3 : ∀ j k, x3 (ix2 j k) = whh (ix2 j k))
    (h4 : ∀ j, x4 (ix2 0 j) = b (ix2 0 j)) (h5 : x5 (ix2 (y 0) (y 1)) = cp (ix2 (i 0) (i 1))) (hi : i 1 = y 1) :
    k0_pay3 x1 x2 x3 x0 x4 x5 y = stepH ge gid sums whh b cp i := by
  rw [eq_ix2 y]
  refine (pay3_apply x0 x1 x2 x3 x4 x5 (y 0) (y 1) (by rw [h1]; exact hg _)).trans ?_
  unfold stepH hNext cNext
  simp only [gates_block h0 h1 h2 h3 h4, mat, h5, hi]

open Cert.KernelIdeal.Gen in
/-- The kernel's cell-state store on a block is the array's next cell state under the block. -/
theorem block_c (hg : ∀ n, (gid (ix2 0 n)).toNat < 64)
    (h0 : ∀ j, x0 (ix2 (y 0) j) = ge (ix2 (i 0) j)) (h1 : x1 (ix2 0 (y 0)) = gid (ix2 0 (i 0)))
    (h2 : ∀ g k, x2 (ix2 g k) = sums (ix2 g k)) (h3 : ∀ j k, x3 (ix2 j k) = whh (ix2 j k))
    (h4 : ∀ j, x4 (ix2 0 j) = b (ix2 0 j)) (h5 : x5 (ix2 (y 0) (y 1)) = cp (ix2 (i 0) (i 1))) (hi : i 1 = y 1) :
    k0_pay2 x1 x2 x3 x0 x4 x5 y = stepC ge gid sums whh b cp i := by
  rw [eq_ix2 y]
  refine (pay2_apply x0 x1 x2 x3 x4 x5 (y 0) (y 1) (by rw [h1]; exact hg _)).trans ?_
  unfold stepC cNext
  simp only [gates_block h0 h1 h2 h3 h4, mat, h5, hi]

end Block

end Cert.Social
-- ==== Proof.Spec.lean ====
module

public import proofs.«01_k».proof.Proof.Cell

@[expose] public section

noncomputable section

namespace Cert.Social

open Idealize.ShloMosaic
open Cert.KernelIdeal Cert.KernelIdeal.Gen

/-! # The recurrence, one time step after another, over the arguments -/

/-- The bin of one coordinate: clipped to [-1, 1], moved to [0, 2], cut into quarters, clipped to 0 … 7. -/
def bin (a : EReal) : BitVec 32 :=
  IntOp.minsi 7#32 (IntOp.maxsi 0#32 (FloatOps.fptosi (F := Ideal) (φ := .f32) 32 (Ideal.liftRound Int.floor
    (Ideal.div (min 1 (max (Ideal.ofBits .f32 0xBF800000#32) a) + 1)
      (Ideal.ofBits .f32 0x3E800000#32)))))

/-- The grid cell of a point, as a word: eight times the first coordinate's bin, plus the second's. -/
def cellWord (a b : EReal) : BitVec 32 := IntOp.addi (IntOp.muli (bin a) 8#32) (bin b)

theorem clip_lt (w : BitVec 32) : (IntOp.minsi 7#32 (IntOp.maxsi 0#32 w)).toNat < 8 := by
  simp only [IntOp.minsi, IntOp.maxsi, BitVec.slt_eq_decide, decide_eq_true_eq]
  have h0 : (0#32 : BitVec 32).toInt = 0 := rfl
  have h7 : (7#32 : BitVec 32).toInt = 7 := rfl
  rw [h0]
  split
  · decide
  · rename_i h
    rw [h7]
    split
    · decide
    · rename_i h'
      rw [BitVec.toInt_eq_toNat_cond] at h h'
      split at h <;> split at h' <;> omega

theorem cellWord_lt (a b : EReal) : (cellWord a b).toNat < 64 := by
  have ha : (bin a).toNat < 8 := clip_lt _
  have hb : (bin b).toNat < 8 := clip_lt _
  simp only [cellWord, IntOp.addi, IntOp.muli, BitVec.toNat_add, BitVec.toNat_mul, BitVec.toNat_ofNat]
  omega

/-- The input half of the gates at time step `t`: the step's embedding times the input weights, plus the input bias. -/
def geAt (E : Vec Ideal S16384x20x64 .f32) (wi : Vec Ideal S512x64 .f32) (bi : Vec Ideal S512 .f32) (t : Fin 20) :
    Vec Ideal S16384x512 .f32 := fun i => ∑ x, E (ix3 (i 0) t x) * wi (ix2 (i 1) x) + bi (ix1 (i 1))

/-- The hidden states summed by grid cell at time step `t`. -/
def sumsAt (G : Vec Ideal S20x16384 .i32) (t : Fin 20) (h : Vec Ideal S16384x128 .f32) : Vec Ideal S64x128 .f32 :=
  Host.scatterAdd (F := Ideal) (φ := .f32) scatter_S64x128_S16384x1_S16384x128_1_0_0_1 (fun _ => (0 : EReal)) (fun i : S16384x1.Idx => G (ix2 t (i 0))) h

/-- The output head on a hidden state. -/
def outAt (wp : Vec Ideal S5x128 .f32) (bp : Vec Ideal S5 .f32) (h : Vec Ideal S16384x128 .f32) : Vec Ideal S16384x5 .f32 :=
  fun i => ∑ x, h (ix2 (i 0) x) * wp (ix2 (i 1) x) + bp (ix1 (i 1))

/-- What the recurrence reads: the embedding, the grid cells, the two weight matrices and biases of the gates, the head's. -/
structure Net where
  E : Vec Ideal S16384x20x64 .f32
  G : Vec Ideal S20x16384 .i32
  wi : Vec Ideal S512x64 .f32
  wh : Vec Ideal S512x128 .f32
  bi : Vec Ideal S512 .f32
  bh : Vec Ideal S512 .f32
  wp : Vec Ideal S5x128 .f32
  bp : Vec Ideal S5 .f32

namespace Net
variable (N : Net)

/-- The grid cells of time step `t`, as a row. -/
def row (t : Fin 20) : Vec Ideal S1x16384 .i32 := fun i => N.G (ix2 t (i 1))

/-- The hidden bias, as a row. -/
def bias : Vec Ideal S1x512 .f32 := fun i => N.bh (ix1 (i 1))

/-- The hidden state and the cell state before time step `k`. -/
def state : ℕ → Vec Ideal S16384x128 .f32 × Vec Ideal S16384x128 .f32
  | 0 => (fun _ => (0 : EReal), fun _ => (0 : EReal))
  | k + 1 =>
    let t : Fin 20 := Fin.ofNat 20 k
    let s := state k
    (stepH (geAt N.E N.wi N.bi t) (N.row t) (sumsAt N.G t s.1) N.wh N.bias s.2,
     stepC (geAt N.E N.wi N.bi t) (N.row t) (sumsAt N.G t s.1) N.wh N.bias s.2)

/-- A launch over the arrays of time step `k` ends at the states before step `k + 1`. -/
theorem launch_eq {N : Net} (k : ℕ) {ge gid sums wh b cp} (hge : ge = geAt N.E N.wi N.bi (Fin.ofNat 20 k)) (hgid : gid = N.row (Fin.ofNat 20 k))
    (hsums : sums = sumsAt N.G (Fin.ofNat 20 k) (N.state k).1) (hwh : wh = N.wh) (hb : b = N.bias) (hcp : cp = (N.state k).2) :
    stepH ge gid sums wh b cp = (N.state (k + 1)).1 ∧ stepC ge gid sums wh b cp = (N.state (k + 1)).2 := by
  subst hge hgid hsums hwh hb hcp; exact ⟨rfl, rfl⟩

/-- The output head on the hidden state after time step `k`, for every step. -/
def outs : Vec Ideal S16384x20x5 .f32 := fun i => outAt N.wp N.bp (N.state ((i 1).val + 1)).1 (ix2 (i 0) (i 2))

end Net

/-- The recurrence over the problem's nine arguments. -/
def net (x : Vec Ideal S16384x20x3 .f32) (ww : Vec Ideal S64x3 .f32) (wb : Vec Ideal S64 .f32) (wi : Vec Ideal S512x64 .f32)
    (wh : Vec Ideal S512x128 .f32) (bi bh : Vec Ideal S512 .f32) (wp : Vec Ideal S5x128 .f32) (bp : Vec Ideal S5 .f32) : Net where
  E := fun i => max (∑ k, x (ix3 (i 0) (i 1) k) * ww (ix2 (i 2) k) + wb (ix1 (i 2))) 0
  G := fun i => cellWord (x (ix3 (i 1) (i 0) 0)) (x (ix3 (i 1) (i 0) 1))
  wi := wi
  wh := wh
  bi := bi
  bh := bh
  wp := wp
  bp := bp

/-- A scatter of the hidden states into zeros, by the cells of time step `t`, is the step's sums. -/
theorem sumsAt_of {G : Vec Ideal S20x16384 .i32} {t : Fin 20} {h : Vec Ideal S16384x128 .f32} {z : Vec Ideal S64x128 .f32}
    {idx : Vec Ideal S16384x1 .i32} (hz : z = fun _ => (0 : EReal)) (hi : ∀ n, idx (ix2 n 0) = G (ix2 t n)) :
    Host.scatterAdd (F := Ideal) (φ := .f32) scatter_S64x128_S16384x1_S16384x128_1_0_0_1 z idx h = sumsAt G t h := by
  have e : idx = fun i : S16384x1.Idx => G (ix2 t (i 0)) := by
    funext i
    rw [eq_ix2 i, show i 1 = (0 : Fin 1) from Subsingleton.elim (α := Fin 1) _ _]
    exact hi _
  rw [hz, e]; rfl

/-- Zero hidden states sum to zero in every grid cell. -/
theorem sumsAt_zero (G : Vec Ideal S20x16384 .i32) (t : Fin 20) : sumsAt G t (fun _ => (0 : EReal)) = fun _ => (0 : EReal) := by
  funext i
  show (0 : EReal) + ∑ j ∈ _, (0 : EReal) = 0
  rw [Finset.sum_const_zero, add_zero]

end Cert.Social
-- ==== Proof.Entry.lean ====
module

public import proofs.«01_k».proof.Proof.Spec
public import proofs.«01_k».proof.Proof.Gen.KernelIdeal.Frame.Fold0
public import Idealize.ShloMosaic.Lib.StableHlo.RunRead

@[expose] public section

set_option maxRecDepth 16384

noncomputable section

namespace Cert.Social

open Idealize.ShloMosaic Idealize.ShloMosaic.TcCoe Idealize.ShloMosaic.StableHlo
open Cert.KernelIdeal Cert.KernelIdeal.Gen

/-! # The kernel's host program before the first launch -/

variable (m : (ℓ : Loc nD τ sig) → Buf (Elt Ideal) ℓ) (ρ : Dev nD → PrngReg) (c : Dev nD)

/-- The recurrence over the arguments in memory `m`. -/
def netOf : Net :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem entry_E : W11 m ρ c (Proc.devRef .tc main_v31) = (netOf m c).E := by
  funext i
  rw [eq_ix3 i]
  generalize i 0 = n, i 1 = t, i 2 = k
  after_reads_simp
  simp only [TRef.toBuf, TRef.ofBuf, cast_cast, cast_eq]
  pointwise []
  rfl

theorem entry_G : W11 m ρ c (Proc.devRef .tc main_v23) = (netOf m c).G := by
  funext i
  rw [eq_ix2 i]
  generalize i 0 = t, i 1 = n
  after_reads_simp
  simp only [TRef.toBuf, TRef.ofBuf, cast_cast, cast_eq, id_eq]
  pointwise []
  rfl

theorem entry_G3 : W11 m ρ c (Proc.devRef .tc main_v24) = fun i : S20x1x16384.Idx => (netOf m c).G (ix2 (i 0) (i 2)) := by
  funext i
  rw [eq_ix3 i]
  generalize i 0 = t, i 1 = z, i 2 = n
  after_reads_simp
  simp only [TRef.toBuf, TRef.ofBuf, cast_cast, cast_eq, id_eq]
  pointwise []
  rfl

theorem entry_bias : W11 m ρ c (Proc.devRef .tc main_v25) = (netOf m c).bias := by
  funext i
  rw [eq_ix2 i]
  generalize i 0 = z, i 1 = j
  after_reads_simp
  pointwise []
  rfl

/-- The gates' input half, the grid cells' row and the zero states that the first launch reads. -/
theorem entry_first (V : Valuation τ sig (Elt Ideal)) :
    after hostOps0_10 V (Proc.devRef .tc main_v41)
        = geAt (V (Proc.devRef .tc main_v31)) (V (Proc.devRef .tc main_arg3)) (V (Proc.devRef .tc main_arg5)) 0
    ∧ after hostOps0_10 V (Proc.devRef .tc main_v43)
        = (fun i : S1x16384.Idx => (V (Proc.devRef .tc main_v24) : Vec Ideal S20x1x16384 .i32) (ix3 0 0 (i 1)))
    ∧ after hostOps0_10 V (Proc.devRef .tc main_v34) = (fun _ : S64x128.Idx => (0 : EReal))
    ∧ after hostOps0_10 V (Proc.devRef .tc main_v33) = (fun _ : S16384x128.Idx => (0 : EReal)) := by
  refine ⟨?_, ?_, ?_, ?_⟩ <;> funext i <;> rw [eq_ix2 i] <;> generalize i 0 = a, i 1 = b <;> after_reads_simp <;>
    pointwise [geAt]

end Cert.Social
-- ==== Proof.Keep.lean ====
module

public import proofs.«01_k».proof.Proof.Entry

@[expose] public section

set_option maxRecDepth 16384

noncomputable section

namespace Cert.Social

open Idealize.ShloMosaic Idealize.ShloMosaic.TcCoe Idealize.ShloMosaic.StableHlo
open Cert.KernelIdeal Cert.KernelIdeal.Gen

/-! # Buffers that stay as they are between two boundaries of the kernel's program -/

variable (m : (ℓ : Loc nD τ sig) → Buf (Elt Ideal) ℓ) (ρ : Dev nD → PrngReg) (c : Dev nD)

/-- A buffer that neither a host stretch (`A`) nor a launch (`B`) nor anything later (`T`) writes is at the end what it was before. -/
theorem keep_step {V₄ V₃ V₂ V₁ : Valuation τ sig (Elt Ideal)} {A B T : List (Ref sig .tc)}
    (later : ∀ r, r ∉ T → V₄ (Proc.devRef .tc r) = V₃ (Proc.devRef .tc r)) (launch : ∀ r, r ∉ B → V₃ (Proc.devRef .tc r) = V₂ (Proc.devRef .tc r))
    (host : ∀ r, r ∉ A → V₂ (Proc.devRef .tc r) = V₁ (Proc.devRef .tc r)) (r : Ref sig .tc) (h : r ∉ A ++ (B ++ T)) :
    V₄ (Proc.devRef .tc r) = V₁ (Proc.devRef .tc r) := by
  rw [List.mem_append, not_or, List.mem_append, not_or] at h
  exact (later r h.2.2).trans ((launch r h.2.1).trans (host r h.1))

/-- What the launches read that no launch and no host stretch between them writes. -/
abbrev baseRefs : List (Ref sig .tc) :=
  [main_v31, main_v23, main_v24, main_v25, main_arg3, main_arg4, main_arg5, main_arg7, main_arg8]

/-- The buffers of `baseRefs` hold what the recurrence `N` reads. -/
def Base (N : Net) (V : Valuation τ sig (Elt Ideal)) : Prop :=
  V (Proc.devRef .tc main_v31) = N.E ∧ V (Proc.devRef .tc main_v23) = N.G
  ∧ V (Proc.devRef .tc main_v24) = (fun i : S20x1x16384.Idx => N.G (ix2 (i 0) (i 2))) ∧ V (Proc.devRef .tc main_v25) = N.bias
  ∧ V (Proc.devRef .tc main_arg3) = N.wi ∧ V (Proc.devRef .tc main_arg4) = N.wh ∧ V (Proc.devRef .tc main_arg5) = N.bi
  ∧ V (Proc.devRef .tc main_arg7) = N.wp ∧ V (Proc.devRef .tc main_arg8) = N.bp

theorem Base.congr {N : Net} {V V' : Valuation τ sig (Elt Ideal)} (h : Base N V)
    (e : ∀ r ∈ baseRefs, V' (Proc.devRef .tc r) = V (Proc.devRef .tc r)) : Base N V' := by
  obtain ⟨h1, h2, h3, h4, h5, h6, h7, h8, h9⟩ := h
  exact ⟨(e _ (by decide)).trans h1, (e _ (by decide)).trans h2, (e _ (by decide)).trans h3, (e _ (by decide)).trans h4,
    (e _ (by decide)).trans h5, (e _ (by decide)).trans h6, (e _ (by decide)).trans h7, (e _ (by decide)).trans h8, (e _ (by decide)).trans h9⟩

theorem base11 : Base (netOf m c) (W11 m ρ c) :=
  ⟨entry_E m ρ c, entry_G m ρ c, entry_G3 m ρ c, entry_bias m ρ c, W11_args m ρ c _ (by decide), W11_args m ρ c _ (by decide),
    W11_args m ρ c _ (by decide), W11_args m ρ c _ (by decide), W11_args m ρ c _ (by decide)⟩

/-! `tailJ`: what is written between boundary `J` and the end of the last launch; `keepJ`: the rest stays. -/

abbrev tail50 : List (Ref sig .tc) := []
theorem keep50 (r : Ref sig .tc) (_ : r ∉ tail50) : W50 m ρ c (Proc.devRef .tc r) = W50 m ρ c (Proc.devRef .tc r) := rfl

abbrev tail48 : List (Ref sig .tc) := hostOps19_W ++ ([main_v424_0, main_v424_1] ++ tail50)
theorem keep48 : ∀ r, r ∉ tail48 → W50 m ρ c (Proc.devRef .tc r) = W48 m ρ c (Proc.devRef .tc r) :=
  keep_step (keep50 m ρ c) (fun r h => W50_of m ρ c r fun w hw =>
    (by decide +kernel : ∀ w : Fin cfg19.W, Pipeline.arrRef spec19 w ∉ [main_v424_0, main_v424_1] → (cfg19.win w).isOut = false) w (hw ▸ h)) (W49_of m ρ c)

abbrev tail46 : List (Ref sig .tc) := hostOps18_W ++ ([main_v404_0, main_v404_1] ++ tail48)
theorem keep46 : ∀ r, r ∉ tail46 → W50 m ρ c (Proc.devRef .tc r) = W46 m ρ c (Proc.devRef .tc r) :=
  keep_step (keep48 m ρ c) (fun r h => W48_of m ρ c r fun w hw =>
    (by decide +kernel : ∀ w : Fin cfg18.W, Pipeline.arrRef spec18 w ∉ [main_v404_0, main_v404_1] → (cfg18.win w).isOut = false) w (hw ▸ h)) (W47_of m ρ c)

abbrev tail44 : List (Ref sig .tc) := hostOps17_W ++ ([main_v384_0, main_v384_1] ++ tail46)
theorem keep44 : ∀ r, r ∉ tail44 → W50 m ρ c (Proc.devRef .tc r) = W44 m ρ c (Proc.devRef .tc r) :=
  keep_step (keep46 m ρ c) (fun r h => W46_of m ρ c r fun w hw =>
    (by decide +kernel : ∀ w : Fin cfg17.W, Pipeline.arrRef spec17 w ∉ [main_v384_0, main_v384_1] → (cfg17.win w).isOut = false) w (hw ▸ h)) (W45_of m ρ c)

abbrev tail42 : List (Ref sig .tc) := hostOps16_W ++ ([main_v364_0, main_v364_1] ++ tail44)
theorem keep42 : ∀ r, r ∉ tail42 → W50 m ρ c (Proc.devRef .tc r) = W42 m ρ c (Proc.devRef .tc r) :=
  keep_step (keep44 m ρ c) (fun r h => W44_of m ρ c r fun w hw =>
    (by decide +kernel : ∀ w : Fin cfg16.W, Pipeline.arrRef spec16 w ∉ [main_v364_0, main_v364_1] → (cfg16.win w).isOut = false) w (hw ▸ h)) (W43_of m ρ c)

abbrev tail40 : List (Ref sig .tc) := hostOps15_W ++ ([main_v344_0, main_v344_1] ++ tail42)
theorem keep40 : ∀ r, r ∉ tail40 → W50 m ρ c (Proc.devRef .tc r) = W40 m ρ c (Proc.devRef .tc r) :=
  keep_step (keep42 m ρ c) (fun r h => W42_of m ρ c r fun w hw =>
    (by decide +kernel : ∀ w : Fin cfg15.W, Pipeline.arrRef spec15 w ∉ [main_v344_0, main_v344_1] → (cfg15.win w).isOut = false) w (hw ▸ h)) (W41_of m ρ c)

abbrev tail38 : List (Ref sig .tc) := hostOps14_W ++ ([main_v324_0, main_v324_1] ++ tail40)
theorem keep38 : ∀ r, r ∉ tail38 → W50 m ρ c (Proc.devRef .tc r) = W38 m ρ c (Proc.devRef .tc r) :=
  keep_step (keep40 m ρ c) (fun r h => W40_of m ρ c r fun w hw =>
    (by decide +kernel : ∀ w : Fin cfg14.W, Pipeline.arrRef spec14 w ∉ [main_v324_0, main_v324_1] → (cfg14.win w).isOut = false) w (hw ▸ h)) (W39_of m ρ c)

abbrev tail36 : List (Ref sig .tc) := hostOps13_W ++ ([main_v304_0, main_v304_1] ++ tail38)
theorem keep36 : ∀ r, r ∉ tail36 → W50 m ρ c (Proc.devRef .tc r) = W36 m ρ c (Proc.devRef .tc r) :=
  keep_step (keep38 m ρ c) (fun r h => W38_of m ρ c r fun w hw =>
    (by decide +kernel : ∀ w : Fin cfg13.W, Pipeline.arrRef spec13 w ∉ [main_v304_0, main_v304_1] → (cfg13.win w).isOut = false) w (hw ▸ h)) (W37_of m ρ c)

abbrev tail34 : List (Ref sig .tc) := hostOps12_W ++ ([main_v284_0, main_v284_1] ++ tail36)
theorem keep34 : ∀ r, r ∉ tail34 → W50 m ρ c (Proc.devRef .tc r) = W34 m ρ c (Proc.devRef .tc r) :=
  keep_step (keep36 m ρ c) (fun r h => W36_of m ρ c r fun w hw =>
    (by decide +kernel : ∀ w : Fin cfg12.W, Pipeline.arrRef spec12 w ∉ [main_v284_0, main_v284_1] → (cfg12.win w).isOut = false) w (hw ▸ h)) (W35_of m ρ c)

abbrev tail32 : List (Ref sig .tc) := hostOps11_W ++ ([main_v264_0, main_v264_1] ++ tail34)
theorem keep32 : ∀ r, r ∉ tail32 → W50 m ρ c (Proc.devRef .tc r) = W32 m ρ c (Proc.devRef .tc r) :=
  keep_step (keep34 m ρ c) (fun r h => W34_of m ρ c r fun w hw =>
    (by decide +kernel : ∀ w : Fin cfg11.W, Pipeline.arrRef spec11 w ∉ [main_v264_0, main_v264_1] → (cfg11.win w).isOut = false) w (hw ▸ h)) (W33_of m ρ c)

abbrev tail30 : List (Ref sig .tc) := hostOps10_W ++ ([main_v244_0, main_v244_1] ++ tail32)
theorem keep30 : ∀ r, r ∉ tail30 → W50 m ρ c (Proc.devRef .tc r) = W30 m ρ c (Proc.devRef .tc r) :=
  keep_step (keep32 m ρ c) (fun r h => W32_of m ρ c r fun w hw =>
    (by decide +kernel : ∀ w : Fin cfg10.W, Pipeline.arrRef spec10 w ∉ [main_v244_0, main_v244_1] → (cfg10.win w).isOut = false) w (hw ▸ h)) (W31_of m ρ c)

abbrev tail28 : List (Ref sig .tc) := hostOps9_W ++ ([main_v224_0, main_v224_1] ++ tail30)
theorem keep28 : ∀ r, r ∉ tail28 → W50 m ρ c (Proc.devRef .tc r) = W28 m ρ c (Proc.devRef .tc r) :=
  keep_step (keep30 m ρ c) (fun r h => W30_of m ρ c r fun w hw =>
    (by decide +kernel : ∀ w : Fin cfg9.W, Pipeline.arrRef spec9 w ∉ [main_v224_0, main_v224_1] → (cfg9.win w).isOut = false) w (hw ▸ h)) (W29_of m ρ c)

abbrev tail26 : List (Ref sig .tc) := hostOps8_W ++ ([main_v204_0, main_v204_1] ++ tail28)
theorem keep26 : ∀ r, r ∉ tail26 → W50 m ρ c (Proc.devRef .tc r) = W26 m ρ c (Proc.devRef .tc r) :=
  keep_step (keep28 m ρ c) (fun r h => W28_of m ρ c r fun w hw =>
    (by decide +kernel : ∀ w : Fin cfg8.W, Pipeline.arrRef spec8 w ∉ [main_v204_0, main_v204_1] → (cfg8.win w).isOut = false) w (hw ▸ h)) (W27_of m ρ c)

abbrev tail24 : List (Ref sig .tc) := hostOps7_W ++ ([main_v184_0, main_v184_1] ++ tail26)
theorem keep24 : ∀ r, r ∉ tail24 → W50 m ρ c (Proc.devRef .tc r) = W24 m ρ c (Proc.devRef .tc r) :=
  keep_step (keep26 m ρ c) (fun r h => W26_of m ρ c r fun w hw =>
    (by decide +kernel : ∀ w : Fin cfg7.W, Pipeline.arrRef spec7 w ∉ [main_v184_0, main_v184_1] → (cfg7.win w).isOut = false) w (hw ▸ h)) (W25_of m ρ c)

abbrev tail22 : List (Ref sig .tc) := hostOps6_W ++ ([main_v164_0, main_v164_1] ++ tail24)
theorem keep22 : ∀ r, r ∉ tail22 → W50 m ρ c (Proc.devRef .tc r) = W22 m ρ c (Proc.devRef .tc r) :=
  keep_step (keep24 m ρ c) (fun r h => W24_of m ρ c r fun w hw =>
    (by decide +kernel : ∀ w : Fin cfg6.W, Pipeline.arrRef spec6 w ∉ [main_v164_0, main_v164_1] → (cfg6.win w).isOut = false) w (hw ▸ h)) (W23_of m ρ c)

abbrev tail20 : List (Ref sig .tc) := hostOps5_W ++ ([main_v144_0, main_v144_1] ++ tail22)
theorem keep20 : ∀ r, r ∉ tail20 → W50 m ρ c (Proc.devRef .tc r) = W20 m ρ c (Proc.devRef .tc r) :=
  keep_step (keep22 m ρ c) (fun r h => W22_of m ρ c r fun w hw =>
    (by decide +kernel : ∀ w : Fin cfg5.W, Pipeline.arrRef spec5 w ∉ [main_v144_0, main_v144_1] → (cfg5.win w).isOut = false) w (hw ▸ h)) (W21_of m ρ c)

abbrev tail18 : List (Ref sig .tc) := hostOps4_W ++ ([main_v124_0, main_v124_1] ++ tail20)
theorem keep18 : ∀ r, r ∉ tail18 → W50 m ρ c (Proc.devRef .tc r) = W18 m ρ c (Proc.devRef .tc r) :=
  keep_step (keep20 m ρ c) (fun r h => W20_of m ρ c r fun w hw =>
    (by decide +kernel : ∀ w : Fin cfg4.W, Pipeline.arrRef spec4 w ∉ [main_v124_0, main_v124_1] → (cfg4.win w).isOut = false) w (hw ▸ h)) (W19_of m ρ c)

abbrev tail16 : List (Ref sig .tc) := hostOps3_W ++ ([main_v104_0, main_v104_1] ++ tail18)
theorem keep16 : ∀ r, r ∉ tail16 → W50 m ρ c (Proc.devRef .tc r) = W16 m ρ c (Proc.devRef .tc r) :=
  keep_step (keep18 m ρ c) (fun r h => W18_of m ρ c r fun w hw =>
    (by decide +kernel : ∀ w : Fin cfg3.W, Pipeline.arrRef spec3 w ∉ [main_v104_0, main_v104_1] → (cfg3.win w).isOut = false) w (hw ▸ h)) (W17_of m ρ c)

abbrev tail14 : List (Ref sig .tc) := hostOps2_W ++ ([main_v84_0, main_v84_1] ++ tail16)
theorem keep14 : ∀ r, r ∉ tail14 → W50 m ρ c (Proc.devRef .tc r) = W14 m ρ c (Proc.devRef .tc r) :=
  keep_step (keep16 m ρ c) (fun r h => W16_of m ρ c r fun w hw =>
    (by decide +kernel : ∀ w : Fin cfg2.W, Pipeline.arrRef spec2 w ∉ [main_v84_0, main_v84_1] → (cfg2.win w).isOut = false) w (hw ▸ h)) (W15_of m ρ c)

abbrev tail12 : List (Ref sig .tc) := hostOps1_W ++ ([main_v64_0, main_v64_1] ++ tail14)
theorem keep12 : ∀ r, r ∉ tail12 → W50 m ρ c (Proc.devRef .tc r) = W12 m ρ c (Proc.devRef .tc r) :=
  keep_step (keep14 m ρ c) (fun r h => W14_of m ρ c r fun w hw =>
    (by decide +kernel : ∀ w : Fin cfg1.W, Pipeline.arrRef spec1 w ∉ [main_v64_0, main_v64_1] → (cfg1.win w).isOut = false) w (hw ▸ h)) (W13_of m ρ c)

abbrev tail11 : List (Ref sig .tc) := [] ++ ([main_v44_0, main_v44_1] ++ tail12)
theorem keep11 : ∀ r, r ∉ tail11 → W50 m ρ c (Proc.devRef .tc r) = W11 m ρ c (Proc.devRef .tc r) :=
  keep_step (keep12 m ρ c) (fun r h => W12_of m ρ c r fun w hw =>
    (by decide +kernel : ∀ w : Fin cfg0.W, Pipeline.arrRef spec0 w ∉ [main_v44_0, main_v44_1] → (cfg0.win w).isOut = false) w (hw ▸ h)) (fun _ _ => rfl)

/-- Every boundary after the first launch's entry has the same base buffers. -/
theorem base_of {V : Valuation τ sig (Elt Ideal)} (e : ∀ r ∈ baseRefs, W50 m ρ c (Proc.devRef .tc r) = V (Proc.devRef .tc r)) :
    Base (netOf m c) V :=
  (base11 m ρ c).congr fun r hr => (e r hr).symm.trans
    (keep11 m ρ c r ((by decide +kernel : ∀ r ∈ baseRefs, r ∉ tail11) r hr))

end Cert.Social
-- ==== Proof.Stack.lean ====
module

public import proofs.«01_k».proof.Proof.Keep
public import Idealize.ShloMosaic.Lib.Pipeline.ValueKit

@[expose] public section

set_option maxRecDepth 16384

noncomputable section

namespace Cert.Social

open Idealize.ShloMosaic Idealize.ShloMosaic.TcCoe Idealize.ShloMosaic.StableHlo
open Cert.KernelIdeal Cert.KernelIdeal.Gen

/-! # The kernel's host program after the last launch -/

/-- The head's outputs of the first nineteen steps, in their buffers. -/
def Heads (N : Net) (V : Valuation τ sig (Elt Ideal)) : Prop :=
  V (Proc.devRef .tc main_v49) = outAt N.wp N.bp (N.state 1).1
      ∧ V (Proc.devRef .tc main_v69) = outAt N.wp N.bp (N.state 2).1
      ∧ V (Proc.devRef .tc main_v89) = outAt N.wp N.bp (N.state 3).1
      ∧ V (Proc.devRef .tc main_v109) = outAt N.wp N.bp (N.state 4).1
      ∧ V (Proc.devRef .tc main_v129) = outAt N.wp N.bp (N.state 5).1
      ∧ V (Proc.devRef .tc main_v149) = outAt N.wp N.bp (N.state 6).1
      ∧ V (Proc.devRef .tc main_v169) = outAt N.wp N.bp (N.state 7).1
      ∧ V (Proc.devRef .tc main_v189) = outAt N.wp N.bp (N.state 8).1
      ∧ V (Proc.devRef .tc main_v209) = outAt N.wp N.bp (N.state 9).1
      ∧ V (Proc.devRef .tc main_v229) = outAt N.wp N.bp (N.state 10).1
      ∧ V (Proc.devRef .tc main_v249) = outAt N.wp N.bp (N.state 11).1
      ∧ V (Proc.devRef .tc main_v269) = outAt N.wp N.bp (N.state 12).1
      ∧ V (Proc.devRef .tc main_v289) = outAt N.wp N.bp (N.state 13).1
      ∧ V (Proc.devRef .tc main_v309) = outAt N.wp N.bp (N.state 14).1
      ∧ V (Proc.devRef .tc main_v329) = outAt N.wp N.bp (N.state 15).1
      ∧ V (Proc.devRef .tc main_v349) = outAt N.wp N.bp (N.state 16).1
      ∧ V (Proc.devRef .tc main_v369) = outAt N.wp N.bp (N.state 17).1
      ∧ V (Proc.devRef .tc main_v389) = outAt N.wp N.bp (N.state 18).1
      ∧ V (Proc.devRef .tc main_v409) = outAt N.wp N.bp (N.state 19).1

theorem stack (N : Net) (V : Valuation τ sig (Elt Ideal)) (outs : Heads N V)
    (h7 : V (Proc.devRef .tc main_arg7) = N.wp) (h8 : V (Proc.devRef .tc main_arg8) = N.bp)
    (hh : V (Proc.devRef .tc main_v424_0) = (N.state 20).1) : after hostOps20 V (Proc.devRef .tc main_v453) = N.outs := by
  unfold Heads at outs
  funext i
  rw [eq_ix3 i]
  generalize i 0 = n, i 1 = t, i 2 = j
  show _ = outAt N.wp N.bp (N.state (t.val + 1)).1 (ix2 n j)
  after_reads_simp
  pointwise []
  split
  · after_reads_simp
    concat_tiles p hp
    all_goals
      obtain ⟨e1, e2⟩ : p 1 = n ∧ p 2 = j := ⟨Fin.ext (by assumption), Fin.ext (by assumption)⟩
      have hk : t.val = _ := hp
      rw [eq_ix3 p, e1, e2, hk]
      generalize p 0 = a
      refine (congrFun (unary_result (τ := τ) ..) _).trans ?_
      after_reads_simp
      pointwise [outAt]
      simp only [outs, outAt] <;> rfl
  · rename_i h
    obtain ⟨s, hs⟩ : ∃ s, t.val = 16 + s := ⟨t.val - 16, by omega⟩
    after_reads_simp
    concat_tiles p hp
    all_goals
      obtain ⟨e1, e2⟩ : p 1 = n ∧ p 2 = j := ⟨Fin.ext (by assumption), Fin.ext (by assumption)⟩
      have hk : t.val - 16 = _ := hp
      rw [hs, Nat.add_sub_cancel_left] at hk
      rw [eq_ix3 p, e1, e2, hs, hk]
      generalize p 0 = a
      refine (congrFun (unary_result (τ := τ) ..) _).trans ?_
      after_reads_simp
      pointwise [outAt]
      simp only [outs, outAt, h7, h8, hh] <;> rfl

/-- The running sum over the last axis, as the programs spell it. -/
def cumOf (x : Vec Ideal S16384x20x5 .f32) : Vec Ideal S16384x20x5 .f32 :=
  Host.reduceWindowAdd (F := Ideal) (φ := .f32) ![1, 1, 5] ![1, 1, 1] ![0, 0, 4] ![0, 0, 0] x (broadcastInDim S_ ![] bcast_S_S_ (constant S_ .f32 0x00000000#32))
    reduceWindows_S16384x20x5_S16384x20x5_w1s1p0_0_w1s1p0_0_w5s1p4_0 h_S_

theorem cum (V : Valuation τ sig (Elt Ideal)) :
    after hostOps20_1 V (Proc.devRef .tc main_v454) = cumOf (V (Proc.devRef .tc main_v453)) := by
  after_reads_simp
  simp only [TRef.toBuf, TRef.ofBuf, cast_cast, cast_eq]
  rfl

end Cert.Social
-- ==== Proof.Step.Host.lean ====
module

public import proofs.«01_k».proof.Proof.Keep

@[expose] public section

set_option maxRecDepth 16384

noncomputable section

namespace Cert.Social

open Idealize.ShloMosaic Idealize.ShloMosaic.TcCoe Idealize.ShloMosaic.StableHlo
open Cert.KernelIdeal Cert.KernelIdeal.Gen

/-! # What a host stretch feeds the launch after it

The operations of a stretch that end in an array the launch reads, at the time step `t` they slice out. -/

/-- The input half of the gates. -/
theorem ge_ops (E : Vec Ideal S16384x20x64 .f32) (wi : Vec Ideal S512x64 .f32) (bi : Vec Ideal S512 .f32) (t : Fin 20)
    (hs : S16384x20x64.Slices ![0, t.val, 0] S16384x1x64) :
    addf (F := Ideal) (φ := .f32) (Host.dotGeneral (F := Ideal) (φ₁ := .f32) (φ₂ := .f32) dot_S16384x64_S64x512_S16384x512_1_0_0_1_n_n none
        (fun i => shapeCast S16384x64 (extractStridedSlice S16384x1x64 ![0, t.val, 0] E hs) shapeCasts_S16384x1x64_S16384x64 i)
        (transpose S64x512 [1, 0] wi transposes_S512x64_S64x512_1_0))
      (broadcastInDim S16384x512 ![0, 1] bcast_S1x512_S16384x512_0_1 (broadcastInDim S1x512 ![1] bcast_S512_S1x512_1 bi))
      = geAt E wi bi t := by
  funext i; rw [eq_ix2 i]; pointwise [geAt]

/-- The grid cells, as a row. -/
theorem gid_ops (G : Vec Ideal S20x1x16384 .i32) (t : Fin 20) (hs : S20x1x16384.Slices ![t.val, 0, 0] S1x1x16384) :
    (fun i => shapeCast S1x16384 (extractStridedSlice S1x1x16384 ![t.val, 0, 0] G hs) shapeCasts_S1x1x16384_S1x16384 i)
      = fun i : S1x16384.Idx => G (ix3 t 0 (i 1)) := by
  funext i; rw [eq_ix2 i]; pointwise []

/-- The hidden states summed by grid cell. -/
theorem sums_ops (G : Vec Ideal S20x16384 .i32) (t : Fin 20) (h : Vec Ideal S16384x128 .f32) (hs : S20x16384.Slices ![t.val, 0] S1x16384) :
    Host.scatterAdd (F := Ideal) (φ := .f32) scatter_S64x128_S16384x1_S16384x128_1_0_0_1
        (broadcastInDim S64x128 ![] bcast_S_S64x128 (constant S_ .f32 0#32))
        (broadcastInDim S16384x1 ![0] bcast_S16384_S16384x1_0 fun i =>
          shapeCast S16384 (extractStridedSlice S1x16384 ![t.val, 0] G hs) shapeCasts_S1x16384_S16384 i) h
      = sumsAt G t h :=
  sumsAt_of (by funext i; rw [eq_ix2 i]; pointwise []) fun n => by pointwise []

/-- The output head. -/
theorem out_ops (wp : Vec Ideal S5x128 .f32) (bp : Vec Ideal S5 .f32) (h : Vec Ideal S16384x128 .f32) :
    addf (F := Ideal) (φ := .f32) (Host.dotGeneral (F := Ideal) (φ₁ := .f32) (φ₂ := .f32) dot_S16384x128_S128x5_S16384x5_1_0_0_1_n_n none h
        (transpose S128x5 [1, 0] wp transposes_S5x128_S128x5_1_0))
      (broadcastInDim S16384x5 ![0, 1] bcast_S1x5_S16384x5_0_1 (broadcastInDim S1x5 ![1] bcast_S5_S1x5_1 bp))
      = outAt wp bp h := by
  funext i; rw [eq_ix2 i]; pointwise [outAt]

/-- What a host stretch entered at `V` with the hidden state `h` leaves for time step `t`: the arrays the launch reads, and the
    output head on `h`. -/
structure Fed (t : Fin 20) (V : Valuation τ sig (Elt Ideal)) (h : Vec Ideal S16384x128 .f32) (ge : Vec Ideal S16384x512 .f32)
    (gid : Vec Ideal S1x16384 .i32) (sums : Vec Ideal S64x128 .f32) (out : Vec Ideal S16384x5 .f32) : Prop where
  ge : ge = geAt (V (Proc.devRef .tc main_v31)) (V (Proc.devRef .tc main_arg3)) (V (Proc.devRef .tc main_arg5)) t
  gid : gid = fun i : S1x16384.Idx => (V (Proc.devRef .tc main_v24) : Vec Ideal S20x1x16384 .i32) (ix3 t 0 (i 1))
  sums : sums = sumsAt (V (Proc.devRef .tc main_v23)) t h
  out : out = outAt (V (Proc.devRef .tc main_arg7)) (V (Proc.devRef .tc main_arg8)) h

end Cert.Social
-- ==== Proof.Step.Region.lean ====
module

public import proofs.«01_k».proof.Proof.Cell
public import proofs.«01_k».proof.Proof.Gen.KernelIdeal.Frame.Region0
public import Idealize.ShloMosaic.Lib.Pipeline.ValueKit

/-! What a launch of the cell leaves in its two result arrays, whatever its arrays, staging buffers and semaphores are. -/

@[expose] public section

set_option maxRecDepth 16384
set_option maxHeartbeats 2000000

noncomputable section

namespace Cert.Social

open Idealize.ShloMosaic Idealize.ShloMosaic.TcCoe
open Cert.KernelIdeal Cert.KernelIdeal.Gen

/-- An array of a launch with its staging buffers and their semaphores. -/
structure Operand (s b : Shape) (e : EltTy) (n : ℕ) where
  arr : Memref sig .tc .hbm s e
  stage : Fin n → Memref sig .tc .vmem b e
  sem : Fin n → DmaSem sig
  harr : arr.IsWhole
  hstage : ∀ j, (stage j).IsWhole

/-- The eight operands of a launch. -/
structure Operands where
  o0 : Operand S16384x512 S4096x512 .f32 2
  o1 : Operand S1x16384 S1x4096 .i32 2
  o2 : Operand S64x128 S64x128 .f32 1
  o3 : Operand S512x128 S512x128 .f32 1
  o4 : Operand S1x512 S1x512 .f32 1
  o5 : Operand S16384x128 S4096x128 .f32 2
  o6 : Operand S16384x128 S4096x128 .f32 2
  o7 : Operand S16384x128 S4096x128 .f32 2

namespace Operands
variable (O : Operands)

abbrev win0 : Pipeline.Window sig grid0 :=
  Pipeline.Window.ofSpec O.o0.arr S4096x512.size cc0_transform_0 reads0_0 false false 2 O.o0.stage O.o0.sem
    hrank0 hreads0_0 hinb0_0 nbuf0_0 O.o0.harr hwx0_0 O.o0.hstage
abbrev win1 : Pipeline.Window sig grid0 :=
  Pipeline.Window.ofSpec O.o1.arr S1x4096.size cc0_transform_1 reads0_1 false false 2 O.o1.stage O.o1.sem
    hrank0 hreads0_1 hinb0_1 nbuf0_1 O.o1.harr hwx0_1 O.o1.hstage
abbrev win2 : Pipeline.Window sig grid0 :=
  Pipeline.Window.ofSpec O.o2.arr S64x128.size cc0_transform_2 reads0_2 false true 1 O.o2.stage O.o2.sem
    hrank0 hreads0_2 hinb0_2 nbuf0_2 O.o2.harr hwx0_2 O.o2.hstage
abbrev win3 : Pipeline.Window sig grid0 :=
  Pipeline.Window.ofSpec O.o3.arr S512x128.size cc0_transform_3 reads0_3 false true 1 O.o3.stage O.o3.sem
    hrank0 hreads0_3 hinb0_3 nbuf0_3 O.o3.harr hwx0_3 O.o3.hstage
abbrev win4 : Pipeline.Window sig grid0 :=
  Pipeline.Window.ofSpec O.o4.arr S1x512.size cc0_transform_4 reads0_4 false true 1 O.o4.stage O.o4.sem
    hrank0 hreads0_4 hinb0_4 nbuf0_4 O.o4.harr hwx0_4 O.o4.hstage
abbrev win5 : Pipeline.Window sig grid0 :=
  Pipeline.Window.ofSpec O.o5.arr S4096x128.size cc0_transform_5 reads0_5 false false 2 O.o5.stage O.o5.sem
    hrank0 hreads0_5 hinb0_5 nbuf0_5 O.o5.harr hwx0_5 O.o5.hstage
abbrev win6 : Pipeline.Window sig grid0 :=
  Pipeline.Window.ofSpec O.o6.arr S4096x128.size cc0_transform_6 reads0_6 true false 2 O.o6.stage O.o6.sem
    hrank0 hreads0_6 hinb0_6 nbuf0_6 O.o6.harr hwx0_6 O.o6.hstage
abbrev win7 : Pipeline.Window sig grid0 :=
  Pipeline.Window.ofSpec O.o7.arr S4096x128.size cc0_transform_7 reads0_7 true false 2 O.o7.stage O.o7.sem
    hrank0 hreads0_7 hinb0_7 nbuf0_7 O.o7.harr hwx0_7 O.o7.hstage

/-- The windows of a launch over the operands `O`. -/
abbrev win : Fin 8 → Pipeline.Window sig grid0 := fun | 0 => O.win0 | 1 => O.win1 | 2 => O.win2 | 3 => O.win3 | 4 => O.win4 | 5 => O.win5 | 6 => O.win6 | 7 => O.win7 | ⟨_ + 8, h⟩ => absurd h (Nat.not_lt.2 (Nat.le_add_left _ _))

/-- The launch over the operands `O`. -/
abbrev cfg (body : Λ₀.Label) (args : Fin grid0.N → ((w : Fin 8) → Fin (O.win w).nbuf) → Λ₀.Args body) : Pipeline.Cfg sig Λ₀ where
  grid := grid0
  W := 8
  win := O.win
  body := body
  bodyArgs := args

end Operands

/-- Each window's block index, point by point. -/
theorem index_eq : ∀ t : Fin grid0.N, win0_0.index t = ![t.val, 0] ∧ win0_1.index t = ![0, t.val] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] := by decide +kernel

theorem covers6 (O : Operands) : O.win6.Covers := (by decide +kernel : win0_6.Covers)
theorem covers7 (O : Operands) : O.win7.Covers := (by decide +kernel : win0_7.Covers)

/-- An element of the array under a window is, after the run, what the body left at every element of a flushed block that
    sits there. -/
theorem read_arrAt {Λ₀ : Idealize.SL.Sem.Labels} {cfg : Pipeline.Cfg sig Λ₀} {c : Dev nD} (dat : Pipeline.Dat τ (Elt Ideal) Unit ℕ (UR sig nD τ) ℕ cfg c)
    (w : Fin cfg.W) (hcov : (cfg.win w).Covers) (harr : (cfg.win w).arr.IsWhole) (G : (cfg.win w).shape.Idx → Elt Ideal (cfg.win w).elt)
    (hG : ∀ t y, dat.after w t ((cfg.win w).xinj (cfg.grid.coords t) y) = G (((cfg.win w).rect t).emb y)) :
    (cfg.win w).arr.view.read (Elt Ideal) (dat.arrAt w cfg.N) = G := by
  funext i
  refine dat.arrAt_forall_of_covers w (fun j v => ∀ i, (cfg.win w).arr.view.emb i = j →
    _root_.cast (congrArg (Elt Ideal) (cfg.win w).arr.view.elt_eq) v = G i) hcov (fun t _ y i h => ?_) _ harr i rfl
  have e : i = ((cfg.win w).rect t).emb y := (cfg.win w).arr.view.emb.injective h
  rw [hG, e, cast_cast, cast_eq]

section Leaves
variable (O : Operands) {body : Λ₀.Label} {args : Fin grid0.N → ((w : Fin 8) → Fin (O.win w).nbuf) → Λ₀.Args body}
  {c : Dev nD} (V : (b : Ref sig .tc) → Buf (Elt Ideal) ((c : Thread nD τ).loc b))

/-- The block of window `w` at point `t`, and the whole array. -/
abbrev Operands.block (w : Fin 8) (t : Fin grid0.N) : ((O.win w).xblock (grid0.coords t)).Idx → Elt Ideal (O.win w).elt :=
  ((O.win w).blk t).view.read (Elt Ideal) (V (Pipeline.arrRef (fun w => (O.win w).toWinSpec) w))
abbrev Operands.whole (w : Fin 8) : (O.win w).shape.Idx → Elt Ideal (O.win w).elt :=
  (O.win w).arr.view.read (Elt Ideal) (V (Pipeline.arrRef (fun w => (O.win w).toWinSpec) w))

theorem Operands.block_apply (w : Fin 8) (t : Fin grid0.N) (y) : O.block V w t y = O.whole V w (((O.win w).rect t).emb y) := rfl

/-- An element of a block sits in the array at the block's offset plus its own coordinate. -/
theorem Operands.emb_val (w : Fin 8) (t : Fin grid0.N) (y) (a) :
    (((O.win w).rect t).emb y a).val = (O.win w).index t a * (O.win w).size a + (y a).val :=
  (O.win w).rect_emb_val t y a (by fin_cases w <;> rfl)

/-- An array read at two indices of the same coordinates. -/
theorem at_eq {α : Type} {n0 n1 : ℕ} (f : (⟨2, ![n0, n1]⟩ : Shape).Idx → α) {i j : (⟨2, ![n0, n1]⟩ : Shape).Idx}
    (h0 : (i 0).val = (j 0).val) (h1 : (i 1).val = (j 1).val) : f i = f j :=
  congrArg f (by rw [eq_ix2 i, eq_ix2 j, Fin.ext h0, Fin.ext h1])

/-- The blocks of a launch at a point, and the element of a result array under an element of its block, are what `block_h` and
    `block_c` ask. -/
theorem Operands.point (t : Fin grid0.N) (y : S4096x128.Idx) {i : S16384x128.Idx} (hi0 : (i 0).val = t.val * 4096 + (y 0).val)
    (hi1 : (i 1).val = (y 1).val) :
    (∀ j, (O.block V 0 t : Vec Ideal S4096x512 .f32) (ix2 (y 0) j) = (O.whole V 0 : Vec Ideal S16384x512 .f32) (ix2 (i 0) j))
    ∧ (O.block V 1 t : Vec Ideal S1x4096 .i32) (ix2 0 (y 0)) = (O.whole V 1 : Vec Ideal S1x16384 .i32) (ix2 0 (i 0))
    ∧ (∀ g k, (O.block V 2 t : Vec Ideal S64x128 .f32) (ix2 g k) = (O.whole V 2 : Vec Ideal S64x128 .f32) (ix2 g k))
    ∧ (∀ j k, (O.block V 3 t : Vec Ideal S512x128 .f32) (ix2 j k) = (O.whole V 3 : Vec Ideal S512x128 .f32) (ix2 j k))
    ∧ (∀ j, (O.block V 4 t : Vec Ideal S1x512 .f32) (ix2 0 j) = (O.whole V 4 : Vec Ideal S1x512 .f32) (ix2 0 j))
    ∧ (O.block V 5 t : Vec Ideal S4096x128 .f32) (ix2 (y 0) (y 1)) = (O.whole V 5 : Vec Ideal S16384x128 .f32) (ix2 (i 0) (i 1))
    ∧ i 1 = y 1 := by
  obtain ⟨e0, e1, e2, e3, e4, e5, -, -⟩ := index_eq t
  have v (w : Fin 8) {u : Fin (O.win w).shape.rank → ℕ} (e : (O.win w).index t = u) (y) (a) :
      (((O.win w).rect t).emb y a).val = u a * (O.win w).size a + (y a).val := e ▸ O.emb_val w t y a
  have z (n m : ℕ) : 0 * n + m = m := by omega
  refine ⟨fun j => at_eq (O.whole V 0) ((v 0 e0 _ 0).trans hi0.symm) ((v 0 e0 _ 1).trans (z _ _)),
    at_eq (O.whole V 1) ((v 1 e1 _ 0).trans (z _ _)) ((v 1 e1 _ 1).trans hi0.symm),
    fun g k => at_eq (O.whole V 2) ((v 2 e2 _ 0).trans (z _ _)) ((v 2 e2 _ 1).trans (z _ _)),
    fun j k => at_eq (O.whole V 3) ((v 3 e3 _ 0).trans (z _ _)) ((v 3 e3 _ 1).trans (z _ _)),
    fun j => at_eq (O.whole V 4) ((v 4 e4 _ 0).trans (z _ _)) ((v 4 e4 _ 1).trans (z _ _)),
    at_eq (O.whole V 5) ((v 5 e5 _ 0).trans hi0.symm) ((v 5 e5 _ 1).trans ((z _ _).trans hi1.symm)), Fin.ext hi1⟩

/-- The element of a result array under an element of its block. -/
abbrev Operands.under6 (t : Fin grid0.N) (y : S4096x128.Idx) : S16384x128.Idx := ((O.win 6).rect t).emb y
abbrev Operands.under7 (t : Fin grid0.N) (y : S4096x128.Idx) : S16384x128.Idx := ((O.win 7).rect t).emb y

theorem Operands.under6_val (t : Fin grid0.N) (y : S4096x128.Idx) :
    (O.under6 t y 0).val = t.val * 4096 + (y 0).val ∧ (O.under6 t y 1).val = (y 1).val := by
  obtain ⟨-, -, -, -, -, -, e, -⟩ := index_eq t
  exact ⟨(O.emb_val 6 t y 0).trans (congrArg (· * 4096 + (y 0).val) (congrFun e 0)),
    (O.emb_val 6 t y 1).trans ((congrArg (· * 128 + (y 1).val) (congrFun e 1)).trans (by simp))⟩

theorem Operands.under7_val (t : Fin grid0.N) (y : S4096x128.Idx) :
    (O.under7 t y 0).val = t.val * 4096 + (y 0).val ∧ (O.under7 t y 1).val = (y 1).val := by
  obtain ⟨-, -, -, -, -, -, -, e⟩ := index_eq t
  exact ⟨(O.emb_val 7 t y 0).trans (congrArg (· * 4096 + (y 0).val) (congrFun e 0)),
    (O.emb_val 7 t y 1).trans ((congrArg (· * 128 + (y 1).val) (congrFun e 1)).trans (by simp))⟩

/-- What a launch of the cell leaves in its two result arrays: the next hidden state and the next cell state of the arrays it
    reads. -/
theorem leaves (dat : Pipeline.Dat τ (Elt Ideal) Unit ℕ (UR sig nD τ) ℕ (O.cfg body args) c)
    (h6 : ∀ t, dat.after 6 t = k0_pay3 (O.block V 1 t) (O.block V 2 t) (O.block V 3 t) (O.block V 0 t) (O.block V 4 t) (O.block V 5 t))
    (h7 : ∀ t, dat.after 7 t = k0_pay2 (O.block V 1 t) (O.block V 2 t) (O.block V 3 t) (O.block V 0 t) (O.block V 4 t) (O.block V 5 t))
    (hg : ∀ n, (O.whole V 1 (ix2 0 n) : BitVec 32).toNat < 64) :
    O.o6.arr.view.read (Elt Ideal) (dat.arrAt 6 grid0.N) = stepH (O.whole V 0) (O.whole V 1) (O.whole V 2) (O.whole V 3) (O.whole V 4) (O.whole V 5)
    ∧ O.o7.arr.view.read (Elt Ideal) (dat.arrAt 7 grid0.N) = stepC (O.whole V 0) (O.whole V 1) (O.whole V 2) (O.whole V 3) (O.whole V 4) (O.whole V 5) := by
  constructor
  · refine read_arrAt dat 6 (covers6 O) O.o6.harr _ fun t (y : S4096x128.Idx) => ?_
    obtain ⟨p0, p1, p2, p3, p4, p5, p6⟩ := O.point V t y (O.under6_val t y).1 (O.under6_val t y).2
    exact (congrFun (h6 t) y).trans (block_h (y := y) (i := O.under6 t y) hg p0 p1 p2 p3 p4 p5 p6)
  · refine read_arrAt dat 7 (covers7 O) O.o7.harr _ fun t (y : S4096x128.Idx) => ?_
    obtain ⟨p0, p1, p2, p3, p4, p5, p6⟩ := O.point V t y (O.under7_val t y).1 (O.under7_val t y).2
    exact (congrFun (h7 t) y).trans (block_c (y := y) (i := O.under7 t y) hg p0 p1 p2 p3 p4 p5 p6)

end Leaves

end Cert.Social
-- ==== Proof.Step.One.lean ====
module

public import proofs.«01_k».proof.Proof.Step.Host
public import proofs.«01_k».proof.Proof.Step.Region

@[expose] public section

set_option maxRecDepth 16384

noncomputable section

namespace Cert.Social

open Idealize.ShloMosaic Idealize.ShloMosaic.TcCoe Idealize.ShloMosaic.StableHlo
open Cert.KernelIdeal Cert.KernelIdeal.Gen

/-! # One launch and the host stretch before it, as one step of the recurrence -/

/-- The hidden state and the cell state before time step `k`. -/
def States (N : Net) (k : ℕ) (h cp : Vec Ideal S16384x128 .f32) : Prop := h = (N.state k).1 ∧ cp = (N.state k).2

/-- The hidden state as a launch's body stores it, over the blocks it loads. -/
theorem out6_eq (x0 : Vec Ideal S4096x512 .f32) (x1 : Vec Ideal S1x4096 .i32) (x2 : Vec Ideal S64x128 .f32)
    (x3 : Vec Ideal S512x128 .f32) (x4 : Vec Ideal S1x512 .f32) (x5 : Vec Ideal S4096x128 .f32) :
    out0_6 x0 x1 x2 x3 x4 x5 = k0_pay3 x1 x2 x3 x0 x4 x5 := by frame_out

/-- The cell state as a launch's body stores it, over the blocks it loads. -/
theorem out7_eq (x0 : Vec Ideal S4096x512 .f32) (x1 : Vec Ideal S1x4096 .i32) (x2 : Vec Ideal S64x128 .f32)
    (x3 : Vec Ideal S512x128 .f32) (x4 : Vec Ideal S1x512 .f32) (x5 : Vec Ideal S4096x128 .f32) :
    out0_7 x0 x1 x2 x3 x4 x5 = k0_pay2 x1 x2 x3 x0 x4 x5 := by frame_out

section
variable (O : Operands) {body : Λ₀.Label} {args : Fin grid0.N → ((w : Fin 8) → Fin (O.win w).nbuf) → Λ₀.Args body}
  {c : Dev nD} (V : (b : Ref sig .tc) → Buf (Elt Ideal) ((c : Thread nD τ).loc b))

/-- A launch at contents `V`, entered from a host stretch that began at `U` with the states before step `k`, ends at the states
    before step `k + 1`; and the stretch leaves the output head on the hidden state it began with. -/
theorem step_of {N : Net} (k : ℕ) {U : Valuation τ sig (Elt Ideal)} {h cp : Vec Ideal S16384x128 .f32} {out : Vec Ideal S16384x5 .f32}
    (hG : ∀ i, (N.G i : BitVec 32).toNat < 64) (base : Base N U) (hs : States N k h cp)
    (fed : Fed (Fin.ofNat 20 k) U h (O.whole V 0) (O.whole V 1) (O.whole V 2) out)
    (hw : O.whole V 3 = U (Proc.devRef .tc main_arg4)) (hb : O.whole V 4 = U (Proc.devRef .tc main_v25)) (hc : O.whole V 5 = cp)
    (dat : Pipeline.Dat τ (Elt Ideal) Unit ℕ (UR sig nD τ) ℕ (O.cfg body args) c)
    (h6 : ∀ t, dat.after 6 t = out0_6 (O.block V 0 t) (O.block V 1 t) (O.block V 2 t) (O.block V 3 t) (O.block V 4 t) (O.block V 5 t))
    (h7 : ∀ t, dat.after 7 t = out0_7 (O.block V 0 t) (O.block V 1 t) (O.block V 2 t) (O.block V 3 t) (O.block V 4 t) (O.block V 5 t)) :
    States N (k + 1) (O.o6.arr.view.read (Elt Ideal) (dat.arrAt 6 grid0.N)) (O.o7.arr.view.read (Elt Ideal) (dat.arrAt 7 grid0.N))
    ∧ out = outAt N.wp N.bp (N.state k).1 := by
  obtain ⟨bE, bG, bG3, bB, b3, b4, b5, b7, b8⟩ := base
  obtain ⟨rfl, rfl⟩ := hs
  have hgid : O.whole V 1 = N.row (Fin.ofNat 20 k) := fed.gid.trans (by rw [bG3]; rfl)
  have L := Net.launch_eq (N := N) k (fed.ge.trans (by rw [bE, b3, b5])) hgid (fed.sums.trans (by rw [bG])) (hw.trans b4) (hb.trans bB) hc
  have r := leaves O V dat (fun t => (h6 t).trans (out6_eq ..)) (fun t => (h7 t).trans (out7_eq ..))
    (by intro n; rw [hgid]; exact hG _)
  exact ⟨⟨r.1.trans L.1, r.2.trans L.2⟩, fed.out.trans (by rw [b7, b8])⟩

end

end Cert.Social
-- ==== Proof.Step.Steps0.lean ====
module

public import proofs.«01_k».proof.Proof.Step.One
public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import proofs.«01_k».proof.Proof.Gen.KernelIdeal.Frame.Region4

@[expose] public section

set_option maxRecDepth 16384

noncomputable section

namespace Cert.Social

open Idealize.ShloMosaic Idealize.ShloMosaic.TcCoe Idealize.ShloMosaic.StableHlo
open Cert.KernelIdeal Cert.KernelIdeal.Gen

/-! `operandsK`: launch `K`'s arrays, staging buffers and semaphores; `fedK`: what the host stretch before it leaves; `stepK`: the
stretch and the launch as one step of the recurrence. -/

variable (m : (ℓ : Loc nD τ sig) → Buf (Elt Ideal) ℓ) (ρ : Dev nD → PrngReg) (c : Dev nD)

abbrev operands0 : Operands where
  o0 := ⟨Memref.whole main_v41, stage0_0, sem0_0, Memref.isWhole_whole _, hstage0_0⟩
  o1 := ⟨Memref.whole main_v43, stage0_1, sem0_1, Memref.isWhole_whole _, hstage0_1⟩
  o2 := ⟨Memref.whole main_v34, stage0_2, sem0_2, Memref.isWhole_whole _, hstage0_2⟩
  o3 := ⟨Memref.whole main_arg4, stage0_3, sem0_3, Memref.isWhole_whole _, hstage0_3⟩
  o4 := ⟨Memref.whole main_v25, stage0_4, sem0_4, Memref.isWhole_whole _, hstage0_4⟩
  o5 := ⟨Memref.whole main_v33, stage0_5, sem0_5, Memref.isWhole_whole _, hstage0_5⟩
  o6 := ⟨Memref.whole main_v44_0, stage0_6, sem0_6, Memref.isWhole_whole _, hstage0_6⟩
  o7 := ⟨Memref.whole main_v44_1, stage0_7, sem0_7, Memref.isWhole_whole _, hstage0_7⟩

/-- The first launch starts from zero states. -/
theorem step0 : States (netOf m c) 1 (W12 m ρ c (Proc.devRef .tc main_v44_0)) (W12 m ρ c (Proc.devRef .tc main_v44_1)) := by
  obtain ⟨ge, gid, sums, cp⟩ := entry_first (W10 m ρ c)
  obtain ⟨bE, bG, bG3, bB, b3, b4, b5, b7, b8⟩ := base11 m ρ c
  have hgid : operands0.whole (V11 m ρ c) 1 = (netOf m c).row (Fin.ofNat 20 0) :=
    gid.trans (by rw [← W11_of m ρ c main_v24 (by decide +kernel), bG3]; rfl)
  have L := Net.launch_eq (N := netOf m c) 0 (ge.trans (by rw [← W11_of m ρ c main_v31 (by decide +kernel), ← W11_of m ρ c main_arg3 (by decide +kernel),
      ← W11_of m ρ c main_arg5 (by decide +kernel), bE, b3, b5]; rfl)) hgid (sums.trans (sumsAt_zero _ _).symm) b4 bB cp
  have r := leaves operands0 (V11 m ρ c) (dat0 (V11 m ρ) c) (fun t => (after0_6 (V11 m ρ) c t).trans (out6_eq ..))
    (fun t => (after0_7 (V11 m ρ) c t).trans (out7_eq ..)) (by intro n; rw [hgid]; exact cellWord_lt _ _)
  exact ⟨(W12_arr m ρ c 6).trans (r.1.trans L.1), (W12_arr m ρ c 7).trans (r.2.trans L.2)⟩

abbrev operands1 : Operands where
  o0 := ⟨Memref.whole main_v61, stage1_0, sem1_0, Memref.isWhole_whole _, hstage1_0⟩
  o1 := ⟨Memref.whole main_v63, stage1_1, sem1_1, Memref.isWhole_whole _, hstage1_1⟩
  o2 := ⟨Memref.whole main_v54, stage1_2, sem1_2, Memref.isWhole_whole _, hstage1_2⟩
  o3 := ⟨Memref.whole main_arg4, stage1_3, sem1_3, Memref.isWhole_whole _, hstage1_3⟩
  o4 := ⟨Memref.whole main_v25, stage1_4, sem1_4, Memref.isWhole_whole _, hstage1_4⟩
  o5 := ⟨Memref.whole main_v44_1, stage1_5, sem1_5, Memref.isWhole_whole _, hstage1_5⟩
  o6 := ⟨Memref.whole main_v64_0, stage1_6, sem1_6, Memref.isWhole_whole _, hstage1_6⟩
  o7 := ⟨Memref.whole main_v64_1, stage1_7, sem1_7, Memref.isWhole_whole _, hstage1_7⟩

theorem fed1 (V : Valuation τ sig (Elt Ideal)) :
    Fed 1 V (V (Proc.devRef .tc main_v44_0)) (after hostOps1 V (Proc.devRef .tc main_v61)) (after hostOps1 V (Proc.devRef .tc main_v63))
      (after hostOps1 V (Proc.devRef .tc main_v54)) (after hostOps1 V (Proc.devRef .tc main_v49)) := by
  constructor <;> after_reads_simp
  exacts [ge_ops _ _ _ 1 _, gid_ops _ 1 _, sums_ops _ 1 _ _, out_ops _ _ _]

theorem step1 (h : States (netOf m c) 1 (W12 m ρ c (Proc.devRef .tc main_v44_0)) (W12 m ρ c (Proc.devRef .tc main_v44_1))) :
    States (netOf m c) 2 (W14 m ρ c (Proc.devRef .tc main_v64_0)) (W14 m ρ c (Proc.devRef .tc main_v64_1))
    ∧ W50 m ρ c (Proc.devRef .tc main_v49) = outAt (netOf m c).wp (netOf m c).bp ((netOf m c).state 1).1 := by
  have s := step_of operands1 (V13 m ρ c) 1 (fun _ => cellWord_lt _ _)
    (base_of m ρ c fun r hr => keep12 m ρ c r ((by decide +kernel : ∀ r ∈ baseRefs, r ∉ tail12) r hr)) h (fed1 (W12 m ρ c))
    (W13_of m ρ c main_arg4 (by decide +kernel)) (W13_of m ρ c main_v25 (by decide +kernel)) (W13_of m ρ c main_v44_1 (by decide +kernel))
    (dat1 (V13 m ρ) c) (after1_6 (V13 m ρ) c) (after1_7 (V13 m ρ) c)
  exact ⟨⟨(W14_arr m ρ c 6).trans s.1.1, (W14_arr m ρ c 7).trans s.1.2⟩,
    (keep14 m ρ c main_v49 (by decide +kernel)).trans ((W14_of m ρ c main_v49 (by decide +kernel)).trans s.2)⟩

abbrev operands2 : Operands where
  o0 := ⟨Memref.whole main_v81, stage2_0, sem2_0, Memref.isWhole_whole _, hstage2_0⟩
  o1 := ⟨Memref.whole main_v83, stage2_1, sem2_1, Memref.isWhole_whole _, hstage2_1⟩
  o2 := ⟨Memref.whole main_v74, stage2_2, sem2_2, Memref.isWhole_whole _, hstage2_2⟩
  o3 := ⟨Memref.whole main_arg4, stage2_3, sem2_3, Memref.isWhole_whole _, hstage2_3⟩
  o4 := ⟨Memref.whole main_v25, stage2_4, sem2_4, Memref.isWhole_whole _, hstage2_4⟩
  o5 := ⟨Memref.whole main_v64_1, stage2_5, sem2_5, Memref.isWhole_whole _, hstage2_5⟩
  o6 := ⟨Memref.whole main_v84_0, stage2_6, sem2_6, Memref.isWhole_whole _, hstage2_6⟩
  o7 := ⟨Memref.whole main_v84_1, stage2_7, sem2_7, Memref.isWhole_whole _, hstage2_7⟩

theorem fed2 (V : Valuation τ sig (Elt Ideal)) :
    Fed 2 V (V (Proc.devRef .tc main_v64_0)) (after hostOps2 V (Proc.devRef .tc main_v81)) (after hostOps2 V (Proc.devRef .tc main_v83))
      (after hostOps2 V (Proc.devRef .tc main_v74)) (after hostOps2 V (Proc.devRef .tc main_v69)) := by
  constructor <;> after_reads_simp
  exacts [ge_ops _ _ _ 2 _, gid_ops _ 2 _, sums_ops _ 2 _ _, out_ops _ _ _]

theorem step2 (h : States (netOf m c) 2 (W14 m ρ c (Proc.devRef .tc main_v64_0)) (W14 m ρ c (Proc.devRef .tc main_v64_1))) :
    States (netOf m c) 3 (W16 m ρ c (Proc.devRef .tc main_v84_0)) (W16 m ρ c (Proc.devRef .tc main_v84_1))
    ∧ W50 m ρ c (Proc.devRef .tc main_v69) = outAt (netOf m c).wp (netOf m c).bp ((netOf m c).state 2).1 := by
  have s := step_of operands2 (V15 m ρ c) 2 (fun _ => cellWord_lt _ _)
    (base_of m ρ c fun r hr => keep14 m ρ c r ((by decide +kernel : ∀ r ∈ baseRefs, r ∉ tail14) r hr)) h (fed2 (W14 m ρ c))
    (W15_of m ρ c main_arg4 (by decide +kernel)) (W15_of m ρ c main_v25 (by decide +kernel)) (W15_of m ρ c main_v64_1 (by decide +kernel))
    (dat2 (V15 m ρ) c) (after2_6 (V15 m ρ) c) (after2_7 (V15 m ρ) c)
  exact ⟨⟨(W16_arr m ρ c 6).trans s.1.1, (W16_arr m ρ c 7).trans s.1.2⟩,
    (keep16 m ρ c main_v69 (by decide +kernel)).trans ((W16_of m ρ c main_v69 (by decide +kernel)).trans s.2)⟩

abbrev operands3 : Operands where
  o0 := ⟨Memref.whole main_v101, stage3_0, sem3_0, Memref.isWhole_whole _, hstage3_0⟩
  o1 := ⟨Memref.whole main_v103, stage3_1, sem3_1, Memref.isWhole_whole _, hstage3_1⟩
  o2 := ⟨Memref.whole main_v94, stage3_2, sem3_2, Memref.isWhole_whole _, hstage3_2⟩
  o3 := ⟨Memref.whole main_arg4, stage3_3, sem3_3, Memref.isWhole_whole _, hstage3_3⟩
  o4 := ⟨Memref.whole main_v25, stage3_4, sem3_4, Memref.isWhole_whole _, hstage3_4⟩
  o5 := ⟨Memref.whole main_v84_1, stage3_5, sem3_5, Memref.isWhole_whole _, hstage3_5⟩
  o6 := ⟨Memref.whole main_v104_0, stage3_6, sem3_6, Memref.isWhole_whole _, hstage3_6⟩
  o7 := ⟨Memref.whole main_v104_1, stage3_7, sem3_7, Memref.isWhole_whole _, hstage3_7⟩

theorem fed3 (V : Valuation τ sig (Elt Ideal)) :
    Fed 3 V (V (Proc.devRef .tc main_v84_0)) (after hostOps3 V (Proc.devRef .tc main_v101)) (after hostOps3 V (Proc.devRef .tc main_v103))
      (after hostOps3 V (Proc.devRef .tc main_v94)) (after hostOps3 V (Proc.devRef .tc main_v89)) := by
  constructor <;> after_reads_simp
  exacts [ge_ops _ _ _ 3 _, gid_ops _ 3 _, sums_ops _ 3 _ _, out_ops _ _ _]

theorem step3 (h : States (netOf m c) 3 (W16 m ρ c (Proc.devRef .tc main_v84_0)) (W16 m ρ c (Proc.devRef .tc main_v84_1))) :
    States (netOf m c) 4 (W18 m ρ c (Proc.devRef .tc main_v104_0)) (W18 m ρ c (Proc.devRef .tc main_v104_1))
    ∧ W50 m ρ c (Proc.devRef .tc main_v89) = outAt (netOf m c).wp (netOf m c).bp ((netOf m c).state 3).1 := by
  have s := step_of operands3 (V17 m ρ c) 3 (fun _ => cellWord_lt _ _)
    (base_of m ρ c fun r hr => keep16 m ρ c r ((by decide +kernel : ∀ r ∈ baseRefs, r ∉ tail16) r hr)) h (fed3 (W16 m ρ c))
    (W17_of m ρ c main_arg4 (by decide +kernel)) (W17_of m ρ c main_v25 (by decide +kernel)) (W17_of m ρ c main_v84_1 (by decide +kernel))
    (dat3 (V17 m ρ) c) (after3_6 (V17 m ρ) c) (after3_7 (V17 m ρ) c)
  exact ⟨⟨(W18_arr m ρ c 6).trans s.1.1, (W18_arr m ρ c 7).trans s.1.2⟩,
    (keep18 m ρ c main_v89 (by decide +kernel)).trans ((W18_of m ρ c main_v89 (by decide +kernel)).trans s.2)⟩

abbrev operands4 : Operands where
  o0 := ⟨Memref.whole main_v121, stage4_0, sem4_0, Memref.isWhole_whole _, hstage4_0⟩
  o1 := ⟨Memref.whole main_v123, stage4_1, sem4_1, Memref.isWhole_whole _, hstage4_1⟩
  o2 := ⟨Memref.whole main_v114, stage4_2, sem4_2, Memref.isWhole_whole _, hstage4_2⟩
  o3 := ⟨Memref.whole main_arg4, stage4_3, sem4_3, Memref.isWhole_whole _, hstage4_3⟩
  o4 := ⟨Memref.whole main_v25, stage4_4, sem4_4, Memref.isWhole_whole _, hstage4_4⟩
  o5 := ⟨Memref.whole main_v104_1, stage4_5, sem4_5, Memref.isWhole_whole _, hstage4_5⟩
  o6 := ⟨Memref.whole main_v124_0, stage4_6, sem4_6, Memref.isWhole_whole _, hstage4_6⟩
  o7 := ⟨Memref.whole main_v124_1, stage4_7, sem4_7, Memref.isWhole_whole _, hstage4_7⟩

theorem fed4 (V : Valuation τ sig (Elt Ideal)) :
    Fed 4 V (V (Proc.devRef .tc main_v104_0)) (after hostOps4 V (Proc.devRef .tc main_v121)) (after hostOps4 V (Proc.devRef .tc main_v123))
      (after hostOps4 V (Proc.devRef .tc main_v114)) (after hostOps4 V (Proc.devRef .tc main_v109)) := by
  constructor <;> after_reads_simp
  exacts [ge_ops _ _ _ 4 _, gid_ops _ 4 _, sums_ops _ 4 _ _, out_ops _ _ _]

theorem step4 (h : States (netOf m c) 4 (W18 m ρ c (Proc.devRef .tc main_v104_0)) (W18 m ρ c (Proc.devRef .tc main_v104_1))) :
    States (netOf m c) 5 (W20 m ρ c (Proc.devRef .tc main_v124_0)) (W20 m ρ c (Proc.devRef .tc main_v124_1))
    ∧ W50 m ρ c (Proc.devRef .tc main_v109) = outAt (netOf m c).wp (netOf m c).bp ((netOf m c).state 4).1 := by
  have s := step_of operands4 (V19 m ρ c) 4 (fun _ => cellWord_lt _ _)
    (base_of m ρ c fun r hr => keep18 m ρ c r ((by decide +kernel : ∀ r ∈ baseRefs, r ∉ tail18) r hr)) h (fed4 (W18 m ρ c))
    (W19_of m ρ c main_arg4 (by decide +kernel)) (W19_of m ρ c main_v25 (by decide +kernel)) (W19_of m ρ c main_v104_1 (by decide +kernel))
    (dat4 (V19 m ρ) c) (after4_6 (V19 m ρ) c) (after4_7 (V19 m ρ) c)
  exact ⟨⟨(W20_arr m ρ c 6).trans s.1.1, (W20_arr m ρ c 7).trans s.1.2⟩,
    (keep20 m ρ c main_v109 (by decide +kernel)).trans ((W20_of m ρ c main_v109 (by decide +kernel)).trans s.2)⟩

end Cert.Social
-- ==== Proof.Step.Steps1.lean ====
module

public import proofs.«01_k».proof.Proof.Step.One
public import proofs.«01_k».proof.Proof.Gen.KernelIdeal.Frame.Region5
public import proofs.«01_k».proof.Proof.Gen.KernelIdeal.Frame.Region6
public import proofs.«01_k».proof.Proof.Gen.KernelIdeal.Frame.Region7
public import proofs.«01_k».proof.Proof.Gen.KernelIdeal.Frame.Region8
public import proofs.«01_k».proof.Proof.Gen.KernelIdeal.Frame.Region9

@[expose] public section

set_option maxRecDepth 16384

noncomputable section

namespace Cert.Social

open Idealize.ShloMosaic Idealize.ShloMosaic.TcCoe Idealize.ShloMosaic.StableHlo
open Cert.KernelIdeal Cert.KernelIdeal.Gen

/-! `operandsK`: launch `K`'s arrays, staging buffers and semaphores; `fedK`: what the host stretch before it leaves; `stepK`: the
stretch and the launch as one step of the recurrence. -/

variable (m : (ℓ : Loc nD τ sig) → Buf (Elt Ideal) ℓ) (ρ : Dev nD → PrngReg) (c : Dev nD)

abbrev operands5 : Operands where
  o0 := ⟨Memref.whole main_v141, stage5_0, sem5_0, Memref.isWhole_whole _, hstage5_0⟩
  o1 := ⟨Memref.whole main_v143, stage5_1, sem5_1, Memref.isWhole_whole _, hstage5_1⟩
  o2 := ⟨Memref.whole main_v134, stage5_2, sem5_2, Memref.isWhole_whole _, hstage5_2⟩
  o3 := ⟨Memref.whole main_arg4, stage5_3, sem5_3, Memref.isWhole_whole _, hstage5_3⟩
  o4 := ⟨Memref.whole main_v25, stage5_4, sem5_4, Memref.isWhole_whole _, hstage5_4⟩
  o5 := ⟨Memref.whole main_v124_1, stage5_5, sem5_5, Memref.isWhole_whole _, hstage5_5⟩
  o6 := ⟨Memref.whole main_v144_0, stage5_6, sem5_6, Memref.isWhole_whole _, hstage5_6⟩
  o7 := ⟨Memref.whole main_v144_1, stage5_7, sem5_7, Memref.isWhole_whole _, hstage5_7⟩

theorem fed5 (V : Valuation τ sig (Elt Ideal)) :
    Fed 5 V (V (Proc.devRef .tc main_v124_0)) (after hostOps5 V (Proc.devRef .tc main_v141)) (after hostOps5 V (Proc.devRef .tc main_v143))
      (after hostOps5 V (Proc.devRef .tc main_v134)) (after hostOps5 V (Proc.devRef .tc main_v129)) := by
  constructor <;> after_reads_simp
  exacts [ge_ops _ _ _ 5 _, gid_ops _ 5 _, sums_ops _ 5 _ _, out_ops _ _ _]

theorem step5 (h : States (netOf m c) 5 (W20 m ρ c (Proc.devRef .tc main_v124_0)) (W20 m ρ c (Proc.devRef .tc main_v124_1))) :
    States (netOf m c) 6 (W22 m ρ c (Proc.devRef .tc main_v144_0)) (W22 m ρ c (Proc.devRef .tc main_v144_1))
    ∧ W50 m ρ c (Proc.devRef .tc main_v129) = outAt (netOf m c).wp (netOf m c).bp ((netOf m c).state 5).1 := by
  have s := step_of operands5 (V21 m ρ c) 5 (fun _ => cellWord_lt _ _)
    (base_of m ρ c fun r hr => keep20 m ρ c r ((by decide +kernel : ∀ r ∈ baseRefs, r ∉ tail20) r hr)) h (fed5 (W20 m ρ c))
    (W21_of m ρ c main_arg4 (by decide +kernel)) (W21_of m ρ c main_v25 (by decide +kernel)) (W21_of m ρ c main_v124_1 (by decide +kernel))
    (dat5 (V21 m ρ) c) (after5_6 (V21 m ρ) c) (after5_7 (V21 m ρ) c)
  exact ⟨⟨(W22_arr m ρ c 6).trans s.1.1, (W22_arr m ρ c 7).trans s.1.2⟩,
    (keep22 m ρ c main_v129 (by decide +kernel)).trans ((W22_of m ρ c main_v129 (by decide +kernel)).trans s.2)⟩

abbrev operands6 : Operands where
  o0 := ⟨Memref.whole main_v161, stage6_0, sem6_0, Memref.isWhole_whole _, hstage6_0⟩
  o1 := ⟨Memref.whole main_v163, stage6_1, sem6_1, Memref.isWhole_whole _, hstage6_1⟩
  o2 := ⟨Memref.whole main_v154, stage6_2, sem6_2, Memref.isWhole_whole _, hstage6_2⟩
  o3 := ⟨Memref.whole main_arg4, stage6_3, sem6_3, Memref.isWhole_whole _, hstage6_3⟩
  o4 := ⟨Memref.whole main_v25, stage6_4, sem6_4, Memref.isWhole_whole _, hstage6_4⟩
  o5 := ⟨Memref.whole main_v144_1, stage6_5, sem6_5, Memref.isWhole_whole _, hstage6_5⟩
  o6 := ⟨Memref.whole main_v164_0, stage6_6, sem6_6, Memref.isWhole_whole _, hstage6_6⟩
  o7 := ⟨Memref.whole main_v164_1, stage6_7, sem6_7, Memref.isWhole_whole _, hstage6_7⟩

theorem fed6 (V : Valuation τ sig (Elt Ideal)) :
    Fed 6 V (V (Proc.devRef .tc main_v144_0)) (after hostOps6 V (Proc.devRef .tc main_v161)) (after hostOps6 V (Proc.devRef .tc main_v163))
      (after hostOps6 V (Proc.devRef .tc main_v154)) (after hostOps6 V (Proc.devRef .tc main_v149)) := by
  constructor <;> after_reads_simp
  exacts [ge_ops _ _ _ 6 _, gid_ops _ 6 _, sums_ops _ 6 _ _, out_ops _ _ _]

theorem step6 (h : States (netOf m c) 6 (W22 m ρ c (Proc.devRef .tc main_v144_0)) (W22 m ρ c (Proc.devRef .tc main_v144_1))) :
    States (netOf m c) 7 (W24 m ρ c (Proc.devRef .tc main_v164_0)) (W24 m ρ c (Proc.devRef .tc main_v164_1))
    ∧ W50 m ρ c (Proc.devRef .tc main_v149) = outAt (netOf m c).wp (netOf m c).bp ((netOf m c).state 6).1 := by
  have s := step_of operands6 (V23 m ρ c) 6 (fun _ => cellWord_lt _ _)
    (base_of m ρ c fun r hr => keep22 m ρ c r ((by decide +kernel : ∀ r ∈ baseRefs, r ∉ tail22) r hr)) h (fed6 (W22 m ρ c))
    (W23_of m ρ c main_arg4 (by decide +kernel)) (W23_of m ρ c main_v25 (by decide +kernel)) (W23_of m ρ c main_v144_1 (by decide +kernel))
    (dat6 (V23 m ρ) c) (after6_6 (V23 m ρ) c) (after6_7 (V23 m ρ) c)
  exact ⟨⟨(W24_arr m ρ c 6).trans s.1.1, (W24_arr m ρ c 7).trans s.1.2⟩,
    (keep24 m ρ c main_v149 (by decide +kernel)).trans ((W24_of m ρ c main_v149 (by decide +kernel)).trans s.2)⟩

abbrev operands7 : Operands where
  o0 := ⟨Memref.whole main_v181, stage7_0, sem7_0, Memref.isWhole_whole _, hstage7_0⟩
  o1 := ⟨Memref.whole main_v183, stage7_1, sem7_1, Memref.isWhole_whole _, hstage7_1⟩
  o2 := ⟨Memref.whole main_v174, stage7_2, sem7_2, Memref.isWhole_whole _, hstage7_2⟩
  o3 := ⟨Memref.whole main_arg4, stage7_3, sem7_3, Memref.isWhole_whole _, hstage7_3⟩
  o4 := ⟨Memref.whole main_v25, stage7_4, sem7_4, Memref.isWhole_whole _, hstage7_4⟩
  o5 := ⟨Memref.whole main_v164_1, stage7_5, sem7_5, Memref.isWhole_whole _, hstage7_5⟩
  o6 := ⟨Memref.whole main_v184_0, stage7_6, sem7_6, Memref.isWhole_whole _, hstage7_6⟩
  o7 := ⟨Memref.whole main_v184_1, stage7_7, sem7_7, Memref.isWhole_whole _, hstage7_7⟩

theorem fed7 (V : Valuation τ sig (Elt Ideal)) :
    Fed 7 V (V (Proc.devRef .tc main_v164_0)) (after hostOps7 V (Proc.devRef .tc main_v181)) (after hostOps7 V (Proc.devRef .tc main_v183))
      (after hostOps7 V (Proc.devRef .tc main_v174)) (after hostOps7 V (Proc.devRef .tc main_v169)) := by
  constructor <;> after_reads_simp
  exacts [ge_ops _ _ _ 7 _, gid_ops _ 7 _, sums_ops _ 7 _ _, out_ops _ _ _]

theorem step7 (h : States (netOf m c) 7 (W24 m ρ c (Proc.devRef .tc main_v164_0)) (W24 m ρ c (Proc.devRef .tc main_v164_1))) :
    States (netOf m c) 8 (W26 m ρ c (Proc.devRef .tc main_v184_0)) (W26 m ρ c (Proc.devRef .tc main_v184_1))
    ∧ W50 m ρ c (Proc.devRef .tc main_v169) = outAt (netOf m c).wp (netOf m c).bp ((netOf m c).state 7).1 := by
  have s := step_of operands7 (V25 m ρ c) 7 (fun _ => cellWord_lt _ _)
    (base_of m ρ c fun r hr => keep24 m ρ c r ((by decide +kernel : ∀ r ∈ baseRefs, r ∉ tail24) r hr)) h (fed7 (W24 m ρ c))
    (W25_of m ρ c main_arg4 (by decide +kernel)) (W25_of m ρ c main_v25 (by decide +kernel)) (W25_of m ρ c main_v164_1 (by decide +kernel))
    (dat7 (V25 m ρ) c) (after7_6 (V25 m ρ) c) (after7_7 (V25 m ρ) c)
  exact ⟨⟨(W26_arr m ρ c 6).trans s.1.1, (W26_arr m ρ c 7).trans s.1.2⟩,
    (keep26 m ρ c main_v169 (by decide +kernel)).trans ((W26_of m ρ c main_v169 (by decide +kernel)).trans s.2)⟩

abbrev operands8 : Operands where
  o0 := ⟨Memref.whole main_v201, stage8_0, sem8_0, Memref.isWhole_whole _, hstage8_0⟩
  o1 := ⟨Memref.whole main_v203, stage8_1, sem8_1, Memref.isWhole_whole _, hstage8_1⟩
  o2 := ⟨Memref.whole main_v194, stage8_2, sem8_2, Memref.isWhole_whole _, hstage8_2⟩
  o3 := ⟨Memref.whole main_arg4, stage8_3, sem8_3, Memref.isWhole_whole _, hstage8_3⟩
  o4 := ⟨Memref.whole main_v25, stage8_4, sem8_4, Memref.isWhole_whole _, hstage8_4⟩
  o5 := ⟨Memref.whole main_v184_1, stage8_5, sem8_5, Memref.isWhole_whole _, hstage8_5⟩
  o6 := ⟨Memref.whole main_v204_0, stage8_6, sem8_6, Memref.isWhole_whole _, hstage8_6⟩
  o7 := ⟨Memref.whole main_v204_1, stage8_7, sem8_7, Memref.isWhole_whole _, hstage8_7⟩

theorem fed8 (V : Valuation τ sig (Elt Ideal)) :
    Fed 8 V (V (Proc.devRef .tc main_v184_0)) (after hostOps8 V (Proc.devRef .tc main_v201)) (after hostOps8 V (Proc.devRef .tc main_v203))
      (after hostOps8 V (Proc.devRef .tc main_v194)) (after hostOps8 V (Proc.devRef .tc main_v189)) := by
  constructor <;> after_reads_simp
  exacts [ge_ops _ _ _ 8 _, gid_ops _ 8 _, sums_ops _ 8 _ _, out_ops _ _ _]

theorem step8 (h : States (netOf m c) 8 (W26 m ρ c (Proc.devRef .tc main_v184_0)) (W26 m ρ c (Proc.devRef .tc main_v184_1))) :
    States (netOf m c) 9 (W28 m ρ c (Proc.devRef .tc main_v204_0)) (W28 m ρ c (Proc.devRef .tc main_v204_1))
    ∧ W50 m ρ c (Proc.devRef .tc main_v189) = outAt (netOf m c).wp (netOf m c).bp ((netOf m c).state 8).1 := by
  have s := step_of operands8 (V27 m ρ c) 8 (fun _ => cellWord_lt _ _)
    (base_of m ρ c fun r hr => keep26 m ρ c r ((by decide +kernel : ∀ r ∈ baseRefs, r ∉ tail26) r hr)) h (fed8 (W26 m ρ c))
    (W27_of m ρ c main_arg4 (by decide +kernel)) (W27_of m ρ c main_v25 (by decide +kernel)) (W27_of m ρ c main_v184_1 (by decide +kernel))
    (dat8 (V27 m ρ) c) (after8_6 (V27 m ρ) c) (after8_7 (V27 m ρ) c)
  exact ⟨⟨(W28_arr m ρ c 6).trans s.1.1, (W28_arr m ρ c 7).trans s.1.2⟩,
    (keep28 m ρ c main_v189 (by decide +kernel)).trans ((W28_of m ρ c main_v189 (by decide +kernel)).trans s.2)⟩

abbrev operands9 : Operands where
  o0 := ⟨Memref.whole main_v221, stage9_0, sem9_0, Memref.isWhole_whole _, hstage9_0⟩
  o1 := ⟨Memref.whole main_v223, stage9_1, sem9_1, Memref.isWhole_whole _, hstage9_1⟩
  o2 := ⟨Memref.whole main_v214, stage9_2, sem9_2, Memref.isWhole_whole _, hstage9_2⟩
  o3 := ⟨Memref.whole main_arg4, stage9_3, sem9_3, Memref.isWhole_whole _, hstage9_3⟩
  o4 := ⟨Memref.whole main_v25, stage9_4, sem9_4, Memref.isWhole_whole _, hstage9_4⟩
  o5 := ⟨Memref.whole main_v204_1, stage9_5, sem9_5, Memref.isWhole_whole _, hstage9_5⟩
  o6 := ⟨Memref.whole main_v224_0, stage9_6, sem9_6, Memref.isWhole_whole _, hstage9_6⟩
  o7 := ⟨Memref.whole main_v224_1, stage9_7, sem9_7, Memref.isWhole_whole _, hstage9_7⟩

theorem fed9 (V : Valuation τ sig (Elt Ideal)) :
    Fed 9 V (V (Proc.devRef .tc main_v204_0)) (after hostOps9 V (Proc.devRef .tc main_v221)) (after hostOps9 V (Proc.devRef .tc main_v223))
      (after hostOps9 V (Proc.devRef .tc main_v214)) (after hostOps9 V (Proc.devRef .tc main_v209)) := by
  constructor <;> after_reads_simp
  exacts [ge_ops _ _ _ 9 _, gid_ops _ 9 _, sums_ops _ 9 _ _, out_ops _ _ _]

theorem step9 (h : States (netOf m c) 9 (W28 m ρ c (Proc.devRef .tc main_v204_0)) (W28 m ρ c (Proc.devRef .tc main_v204_1))) :
    States (netOf m c) 10 (W30 m ρ c (Proc.devRef .tc main_v224_0)) (W30 m ρ c (Proc.devRef .tc main_v224_1))
    ∧ W50 m ρ c (Proc.devRef .tc main_v209) = outAt (netOf m c).wp (netOf m c).bp ((netOf m c).state 9).1 := by
  have s := step_of operands9 (V29 m ρ c) 9 (fun _ => cellWord_lt _ _)
    (base_of m ρ c fun r hr => keep28 m ρ c r ((by decide +kernel : ∀ r ∈ baseRefs, r ∉ tail28) r hr)) h (fed9 (W28 m ρ c))
    (W29_of m ρ c main_arg4 (by decide +kernel)) (W29_of m ρ c main_v25 (by decide +kernel)) (W29_of m ρ c main_v204_1 (by decide +kernel))
    (dat9 (V29 m ρ) c) (after9_6 (V29 m ρ) c) (after9_7 (V29 m ρ) c)
  exact ⟨⟨(W30_arr m ρ c 6).trans s.1.1, (W30_arr m ρ c 7).trans s.1.2⟩,
    (keep30 m ρ c main_v209 (by decide +kernel)).trans ((W30_of m ρ c main_v209 (by decide +kernel)).trans s.2)⟩

end Cert.Social
-- ==== Proof.Step.Steps2.lean ====
module

public import proofs.«01_k».proof.Proof.Step.One
public import proofs.«01_k».proof.Proof.Gen.KernelIdeal.Frame.Region10
public import proofs.«01_k».proof.Proof.Gen.KernelIdeal.Frame.Region11
public import proofs.«01_k».proof.Proof.Gen.KernelIdeal.Frame.Region12
public import proofs.«01_k».proof.Proof.Gen.KernelIdeal.Frame.Region13
public import proofs.«01_k».proof.Proof.Gen.KernelIdeal.Frame.Region14

@[expose] public section

set_option maxRecDepth 16384

noncomputable section

namespace Cert.Social

open Idealize.ShloMosaic Idealize.ShloMosaic.TcCoe Idealize.ShloMosaic.StableHlo
open Cert.KernelIdeal Cert.KernelIdeal.Gen

/-! `operandsK`: launch `K`'s arrays, staging buffers and semaphores; `fedK`: what the host stretch before it leaves; `stepK`: the
stretch and the launch as one step of the recurrence. -/

variable (m : (ℓ : Loc nD τ sig) → Buf (Elt Ideal) ℓ) (ρ : Dev nD → PrngReg) (c : Dev nD)

abbrev operands10 : Operands where
  o0 := ⟨Memref.whole main_v241, stage10_0, sem10_0, Memref.isWhole_whole _, hstage10_0⟩
  o1 := ⟨Memref.whole main_v243, stage10_1, sem10_1, Memref.isWhole_whole _, hstage10_1⟩
  o2 := ⟨Memref.whole main_v234, stage10_2, sem10_2, Memref.isWhole_whole _, hstage10_2⟩
  o3 := ⟨Memref.whole main_arg4, stage10_3, sem10_3, Memref.isWhole_whole _, hstage10_3⟩
  o4 := ⟨Memref.whole main_v25, stage10_4, sem10_4, Memref.isWhole_whole _, hstage10_4⟩
  o5 := ⟨Memref.whole main_v224_1, stage10_5, sem10_5, Memref.isWhole_whole _, hstage10_5⟩
  o6 := ⟨Memref.whole main_v244_0, stage10_6, sem10_6, Memref.isWhole_whole _, hstage10_6⟩
  o7 := ⟨Memref.whole main_v244_1, stage10_7, sem10_7, Memref.isWhole_whole _, hstage10_7⟩

theorem fed10 (V : Valuation τ sig (Elt Ideal)) :
    Fed 10 V (V (Proc.devRef .tc main_v224_0)) (after hostOps10 V (Proc.devRef .tc main_v241)) (after hostOps10 V (Proc.devRef .tc main_v243))
      (after hostOps10 V (Proc.devRef .tc main_v234)) (after hostOps10 V (Proc.devRef .tc main_v229)) := by
  constructor <;> after_reads_simp
  exacts [ge_ops _ _ _ 10 _, gid_ops _ 10 _, sums_ops _ 10 _ _, out_ops _ _ _]

theorem step10 (h : States (netOf m c) 10 (W30 m ρ c (Proc.devRef .tc main_v224_0)) (W30 m ρ c (Proc.devRef .tc main_v224_1))) :
    States (netOf m c) 11 (W32 m ρ c (Proc.devRef .tc main_v244_0)) (W32 m ρ c (Proc.devRef .tc main_v244_1))
    ∧ W50 m ρ c (Proc.devRef .tc main_v229) = outAt (netOf m c).wp (netOf m c).bp ((netOf m c).state 10).1 := by
  have s := step_of operands10 (V31 m ρ c) 10 (fun _ => cellWord_lt _ _)
    (base_of m ρ c fun r hr => keep30 m ρ c r ((by decide +kernel : ∀ r ∈ baseRefs, r ∉ tail30) r hr)) h (fed10 (W30 m ρ c))
    (W31_of m ρ c main_arg4 (by decide +kernel)) (W31_of m ρ c main_v25 (by decide +kernel)) (W31_of m ρ c main_v224_1 (by decide +kernel))
    (dat10 (V31 m ρ) c) (after10_6 (V31 m ρ) c) (after10_7 (V31 m ρ) c)
  exact ⟨⟨(W32_arr m ρ c 6).trans s.1.1, (W32_arr m ρ c 7).trans s.1.2⟩,
    (keep32 m ρ c main_v229 (by decide +kernel)).trans ((W32_of m ρ c main_v229 (by decide +kernel)).trans s.2)⟩

abbrev operands11 : Operands where
  o0 := ⟨Memref.whole main_v261, stage11_0, sem11_0, Memref.isWhole_whole _, hstage11_0⟩
  o1 := ⟨Memref.whole main_v263, stage11_1, sem11_1, Memref.isWhole_whole _, hstage11_1⟩
  o2 := ⟨Memref.whole main_v254, stage11_2, sem11_2, Memref.isWhole_whole _, hstage11_2⟩
  o3 := ⟨Memref.whole main_arg4, stage11_3, sem11_3, Memref.isWhole_whole _, hstage11_3⟩
  o4 := ⟨Memref.whole main_v25, stage11_4, sem11_4, Memref.isWhole_whole _, hstage11_4⟩
  o5 := ⟨Memref.whole main_v244_1, stage11_5, sem11_5, Memref.isWhole_whole _, hstage11_5⟩
  o6 := ⟨Memref.whole main_v264_0, stage11_6, sem11_6, Memref.isWhole_whole _, hstage11_6⟩
  o7 := ⟨Memref.whole main_v264_1, stage11_7, sem11_7, Memref.isWhole_whole _, hstage11_7⟩

theorem fed11 (V : Valuation τ sig (Elt Ideal)) :
    Fed 11 V (V (Proc.devRef .tc main_v244_0)) (after hostOps11 V (Proc.devRef .tc main_v261)) (after hostOps11 V (Proc.devRef .tc main_v263))
      (after hostOps11 V (Proc.devRef .tc main_v254)) (after hostOps11 V (Proc.devRef .tc main_v249)) := by
  constructor <;> after_reads_simp
  exacts [ge_ops _ _ _ 11 _, gid_ops _ 11 _, sums_ops _ 11 _ _, out_ops _ _ _]

theorem step11 (h : States (netOf m c) 11 (W32 m ρ c (Proc.devRef .tc main_v244_0)) (W32 m ρ c (Proc.devRef .tc main_v244_1))) :
    States (netOf m c) 12 (W34 m ρ c (Proc.devRef .tc main_v264_0)) (W34 m ρ c (Proc.devRef .tc main_v264_1))
    ∧ W50 m ρ c (Proc.devRef .tc main_v249) = outAt (netOf m c).wp (netOf m c).bp ((netOf m c).state 11).1 := by
  have s := step_of operands11 (V33 m ρ c) 11 (fun _ => cellWord_lt _ _)
    (base_of m ρ c fun r hr => keep32 m ρ c r ((by decide +kernel : ∀ r ∈ baseRefs, r ∉ tail32) r hr)) h (fed11 (W32 m ρ c))
    (W33_of m ρ c main_arg4 (by decide +kernel)) (W33_of m ρ c main_v25 (by decide +kernel)) (W33_of m ρ c main_v244_1 (by decide +kernel))
    (dat11 (V33 m ρ) c) (after11_6 (V33 m ρ) c) (after11_7 (V33 m ρ) c)
  exact ⟨⟨(W34_arr m ρ c 6).trans s.1.1, (W34_arr m ρ c 7).trans s.1.2⟩,
    (keep34 m ρ c main_v249 (by decide +kernel)).trans ((W34_of m ρ c main_v249 (by decide +kernel)).trans s.2)⟩

abbrev operands12 : Operands where
  o0 := ⟨Memref.whole main_v281, stage12_0, sem12_0, Memref.isWhole_whole _, hstage12_0⟩
  o1 := ⟨Memref.whole main_v283, stage12_1, sem12_1, Memref.isWhole_whole _, hstage12_1⟩
  o2 := ⟨Memref.whole main_v274, stage12_2, sem12_2, Memref.isWhole_whole _, hstage12_2⟩
  o3 := ⟨Memref.whole main_arg4, stage12_3, sem12_3, Memref.isWhole_whole _, hstage12_3⟩
  o4 := ⟨Memref.whole main_v25, stage12_4, sem12_4, Memref.isWhole_whole _, hstage12_4⟩
  o5 := ⟨Memref.whole main_v264_1, stage12_5, sem12_5, Memref.isWhole_whole _, hstage12_5⟩
  o6 := ⟨Memref.whole main_v284_0, stage12_6, sem12_6, Memref.isWhole_whole _, hstage12_6⟩
  o7 := ⟨Memref.whole main_v284_1, stage12_7, sem12_7, Memref.isWhole_whole _, hstage12_7⟩

theorem fed12 (V : Valuation τ sig (Elt Ideal)) :
    Fed 12 V (V (Proc.devRef .tc main_v264_0)) (after hostOps12 V (Proc.devRef .tc main_v281)) (after hostOps12 V (Proc.devRef .tc main_v283))
      (after hostOps12 V (Proc.devRef .tc main_v274)) (after hostOps12 V (Proc.devRef .tc main_v269)) := by
  constructor <;> after_reads_simp
  exacts [ge_ops _ _ _ 12 _, gid_ops _ 12 _, sums_ops _ 12 _ _, out_ops _ _ _]

theorem step12 (h : States (netOf m c) 12 (W34 m ρ c (Proc.devRef .tc main_v264_0)) (W34 m ρ c (Proc.devRef .tc main_v264_1))) :
    States (netOf m c) 13 (W36 m ρ c (Proc.devRef .tc main_v284_0)) (W36 m ρ c (Proc.devRef .tc main_v284_1))
    ∧ W50 m ρ c (Proc.devRef .tc main_v269) = outAt (netOf m c).wp (netOf m c).bp ((netOf m c).state 12).1 := by
  have s := step_of operands12 (V35 m ρ c) 12 (fun _ => cellWord_lt _ _)
    (base_of m ρ c fun r hr => keep34 m ρ c r ((by decide +kernel : ∀ r ∈ baseRefs, r ∉ tail34) r hr)) h (fed12 (W34 m ρ c))
    (W35_of m ρ c main_arg4 (by decide +kernel)) (W35_of m ρ c main_v25 (by decide +kernel)) (W35_of m ρ c main_v264_1 (by decide +kernel))
    (dat12 (V35 m ρ) c) (after12_6 (V35 m ρ) c) (after12_7 (V35 m ρ) c)
  exact ⟨⟨(W36_arr m ρ c 6).trans s.1.1, (W36_arr m ρ c 7).trans s.1.2⟩,
    (keep36 m ρ c main_v269 (by decide +kernel)).trans ((W36_of m ρ c main_v269 (by decide +kernel)).trans s.2)⟩

abbrev operands13 : Operands where
  o0 := ⟨Memref.whole main_v301, stage13_0, sem13_0, Memref.isWhole_whole _, hstage13_0⟩
  o1 := ⟨Memref.whole main_v303, stage13_1, sem13_1, Memref.isWhole_whole _, hstage13_1⟩
  o2 := ⟨Memref.whole main_v294, stage13_2, sem13_2, Memref.isWhole_whole _, hstage13_2⟩
  o3 := ⟨Memref.whole main_arg4, stage13_3, sem13_3, Memref.isWhole_whole _, hstage13_3⟩
  o4 := ⟨Memref.whole main_v25, stage13_4, sem13_4, Memref.isWhole_whole _, hstage13_4⟩
  o5 := ⟨Memref.whole main_v284_1, stage13_5, sem13_5, Memref.isWhole_whole _, hstage13_5⟩
  o6 := ⟨Memref.whole main_v304_0, stage13_6, sem13_6, Memref.isWhole_whole _, hstage13_6⟩
  o7 := ⟨Memref.whole main_v304_1, stage13_7, sem13_7, Memref.isWhole_whole _, hstage13_7⟩

theorem fed13 (V : Valuation τ sig (Elt Ideal)) :
    Fed 13 V (V (Proc.devRef .tc main_v284_0)) (after hostOps13 V (Proc.devRef .tc main_v301)) (after hostOps13 V (Proc.devRef .tc main_v303))
      (after hostOps13 V (Proc.devRef .tc main_v294)) (after hostOps13 V (Proc.devRef .tc main_v289)) := by
  constructor <;> after_reads_simp
  exacts [ge_ops _ _ _ 13 _, gid_ops _ 13 _, sums_ops _ 13 _ _, out_ops _ _ _]

theorem step13 (h : States (netOf m c) 13 (W36 m ρ c (Proc.devRef .tc main_v284_0)) (W36 m ρ c (Proc.devRef .tc main_v284_1))) :
    States (netOf m c) 14 (W38 m ρ c (Proc.devRef .tc main_v304_0)) (W38 m ρ c (Proc.devRef .tc main_v304_1))
    ∧ W50 m ρ c (Proc.devRef .tc main_v289) = outAt (netOf m c).wp (netOf m c).bp ((netOf m c).state 13).1 := by
  have s := step_of operands13 (V37 m ρ c) 13 (fun _ => cellWord_lt _ _)
    (base_of m ρ c fun r hr => keep36 m ρ c r ((by decide +kernel : ∀ r ∈ baseRefs, r ∉ tail36) r hr)) h (fed13 (W36 m ρ c))
    (W37_of m ρ c main_arg4 (by decide +kernel)) (W37_of m ρ c main_v25 (by decide +kernel)) (W37_of m ρ c main_v284_1 (by decide +kernel))
    (dat13 (V37 m ρ) c) (after13_6 (V37 m ρ) c) (after13_7 (V37 m ρ) c)
  exact ⟨⟨(W38_arr m ρ c 6).trans s.1.1, (W38_arr m ρ c 7).trans s.1.2⟩,
    (keep38 m ρ c main_v289 (by decide +kernel)).trans ((W38_of m ρ c main_v289 (by decide +kernel)).trans s.2)⟩

abbrev operands14 : Operands where
  o0 := ⟨Memref.whole main_v321, stage14_0, sem14_0, Memref.isWhole_whole _, hstage14_0⟩
  o1 := ⟨Memref.whole main_v323, stage14_1, sem14_1, Memref.isWhole_whole _, hstage14_1⟩
  o2 := ⟨Memref.whole main_v314, stage14_2, sem14_2, Memref.isWhole_whole _, hstage14_2⟩
  o3 := ⟨Memref.whole main_arg4, stage14_3, sem14_3, Memref.isWhole_whole _, hstage14_3⟩
  o4 := ⟨Memref.whole main_v25, stage14_4, sem14_4, Memref.isWhole_whole _, hstage14_4⟩
  o5 := ⟨Memref.whole main_v304_1, stage14_5, sem14_5, Memref.isWhole_whole _, hstage14_5⟩
  o6 := ⟨Memref.whole main_v324_0, stage14_6, sem14_6, Memref.isWhole_whole _, hstage14_6⟩
  o7 := ⟨Memref.whole main_v324_1, stage14_7, sem14_7, Memref.isWhole_whole _, hstage14_7⟩

theorem fed14 (V : Valuation τ sig (Elt Ideal)) :
    Fed 14 V (V (Proc.devRef .tc main_v304_0)) (after hostOps14 V (Proc.devRef .tc main_v321)) (after hostOps14 V (Proc.devRef .tc main_v323))
      (after hostOps14 V (Proc.devRef .tc main_v314)) (after hostOps14 V (Proc.devRef .tc main_v309)) := by
  constructor <;> after_reads_simp
  exacts [ge_ops _ _ _ 14 _, gid_ops _ 14 _, sums_ops _ 14 _ _, out_ops _ _ _]

theorem step14 (h : States (netOf m c) 14 (W38 m ρ c (Proc.devRef .tc main_v304_0)) (W38 m ρ c (Proc.devRef .tc main_v304_1))) :
    States (netOf m c) 15 (W40 m ρ c (Proc.devRef .tc main_v324_0)) (W40 m ρ c (Proc.devRef .tc main_v324_1))
    ∧ W50 m ρ c (Proc.devRef .tc main_v309) = outAt (netOf m c).wp (netOf m c).bp ((netOf m c).state 14).1 := by
  have s := step_of operands14 (V39 m ρ c) 14 (fun _ => cellWord_lt _ _)
    (base_of m ρ c fun r hr => keep38 m ρ c r ((by decide +kernel : ∀ r ∈ baseRefs, r ∉ tail38) r hr)) h (fed14 (W38 m ρ c))
    (W39_of m ρ c main_arg4 (by decide +kernel)) (W39_of m ρ c main_v25 (by decide +kernel)) (W39_of m ρ c main_v304_1 (by decide +kernel))
    (dat14 (V39 m ρ) c) (after14_6 (V39 m ρ) c) (after14_7 (V39 m ρ) c)
  exact ⟨⟨(W40_arr m ρ c 6).trans s.1.1, (W40_arr m ρ c 7).trans s.1.2⟩,
    (keep40 m ρ c main_v309 (by decide +kernel)).trans ((W40_of m ρ c main_v309 (by decide +kernel)).trans s.2)⟩

end Cert.Social
-- ==== Proof.Step.Steps3.lean ====
module

public import proofs.«01_k».proof.Proof.Step.One
public import proofs.«01_k».proof.Proof.Gen.KernelIdeal.Frame.Region15
public import proofs.«01_k».proof.Proof.Gen.KernelIdeal.Frame.Region16
public import proofs.«01_k».proof.Proof.Gen.KernelIdeal.Frame.Region17
public import proofs.«01_k».proof.Proof.Gen.KernelIdeal.Frame.Region18
public import proofs.«01_k».proof.Proof.Gen.KernelIdeal.Frame.Region19

@[expose] public section

set_option maxRecDepth 16384

noncomputable section

namespace Cert.Social

open Idealize.ShloMosaic Idealize.ShloMosaic.TcCoe Idealize.ShloMosaic.StableHlo
open Cert.KernelIdeal Cert.KernelIdeal.Gen

/-! `operandsK`: launch `K`'s arrays, staging buffers and semaphores; `fedK`: what the host stretch before it leaves; `stepK`: the
stretch and the launch as one step of the recurrence. -/

variable (m : (ℓ : Loc nD τ sig) → Buf (Elt Ideal) ℓ) (ρ : Dev nD → PrngReg) (c : Dev nD)

abbrev operands15 : Operands where
  o0 := ⟨Memref.whole main_v341, stage15_0, sem15_0, Memref.isWhole_whole _, hstage15_0⟩
  o1 := ⟨Memref.whole main_v343, stage15_1, sem15_1, Memref.isWhole_whole _, hstage15_1⟩
  o2 := ⟨Memref.whole main_v334, stage15_2, sem15_2, Memref.isWhole_whole _, hstage15_2⟩
  o3 := ⟨Memref.whole main_arg4, stage15_3, sem15_3, Memref.isWhole_whole _, hstage15_3⟩
  o4 := ⟨Memref.whole main_v25, stage15_4, sem15_4, Memref.isWhole_whole _, hstage15_4⟩
  o5 := ⟨Memref.whole main_v324_1, stage15_5, sem15_5, Memref.isWhole_whole _, hstage15_5⟩
  o6 := ⟨Memref.whole main_v344_0, stage15_6, sem15_6, Memref.isWhole_whole _, hstage15_6⟩
  o7 := ⟨Memref.whole main_v344_1, stage15_7, sem15_7, Memref.isWhole_whole _, hstage15_7⟩

theorem fed15 (V : Valuation τ sig (Elt Ideal)) :
    Fed 15 V (V (Proc.devRef .tc main_v324_0)) (after hostOps15 V (Proc.devRef .tc main_v341)) (after hostOps15 V (Proc.devRef .tc main_v343))
      (after hostOps15 V (Proc.devRef .tc main_v334)) (after hostOps15 V (Proc.devRef .tc main_v329)) := by
  constructor <;> after_reads_simp
  exacts [ge_ops _ _ _ 15 _, gid_ops _ 15 _, sums_ops _ 15 _ _, out_ops _ _ _]

theorem step15 (h : States (netOf m c) 15 (W40 m ρ c (Proc.devRef .tc main_v324_0)) (W40 m ρ c (Proc.devRef .tc main_v324_1))) :
    States (netOf m c) 16 (W42 m ρ c (Proc.devRef .tc main_v344_0)) (W42 m ρ c (Proc.devRef .tc main_v344_1))
    ∧ W50 m ρ c (Proc.devRef .tc main_v329) = outAt (netOf m c).wp (netOf m c).bp ((netOf m c).state 15).1 := by
  have s := step_of operands15 (V41 m ρ c) 15 (fun _ => cellWord_lt _ _)
    (base_of m ρ c fun r hr => keep40 m ρ c r ((by decide +kernel : ∀ r ∈ baseRefs, r ∉ tail40) r hr)) h (fed15 (W40 m ρ c))
    (W41_of m ρ c main_arg4 (by decide +kernel)) (W41_of m ρ c main_v25 (by decide +kernel)) (W41_of m ρ c main_v324_1 (by decide +kernel))
    (dat15 (V41 m ρ) c) (after15_6 (V41 m ρ) c) (after15_7 (V41 m ρ) c)
  exact ⟨⟨(W42_arr m ρ c 6).trans s.1.1, (W42_arr m ρ c 7).trans s.1.2⟩,
    (keep42 m ρ c main_v329 (by decide +kernel)).trans ((W42_of m ρ c main_v329 (by decide +kernel)).trans s.2)⟩

abbrev operands16 : Operands where
  o0 := ⟨Memref.whole main_v361, stage16_0, sem16_0, Memref.isWhole_whole _, hstage16_0⟩
  o1 := ⟨Memref.whole main_v363, stage16_1, sem16_1, Memref.isWhole_whole _, hstage16_1⟩
  o2 := ⟨Memref.whole main_v354, stage16_2, sem16_2, Memref.isWhole_whole _, hstage16_2⟩
  o3 := ⟨Memref.whole main_arg4, stage16_3, sem16_3, Memref.isWhole_whole _, hstage16_3⟩
  o4 := ⟨Memref.whole main_v25, stage16_4, sem16_4, Memref.isWhole_whole _, hstage16_4⟩
  o5 := ⟨Memref.whole main_v344_1, stage16_5, sem16_5, Memref.isWhole_whole _, hstage16_5⟩
  o6 := ⟨Memref.whole main_v364_0, stage16_6, sem16_6, Memref.isWhole_whole _, hstage16_6⟩
  o7 := ⟨Memref.whole main_v364_1, stage16_7, sem16_7, Memref.isWhole_whole _, hstage16_7⟩

theorem fed16 (V : Valuation τ sig (Elt Ideal)) :
    Fed 16 V (V (Proc.devRef .tc main_v344_0)) (after hostOps16 V (Proc.devRef .tc main_v361)) (after hostOps16 V (Proc.devRef .tc main_v363))
      (after hostOps16 V (Proc.devRef .tc main_v354)) (after hostOps16 V (Proc.devRef .tc main_v349)) := by
  constructor <;> after_reads_simp
  exacts [ge_ops _ _ _ 16 _, gid_ops _ 16 _, sums_ops _ 16 _ _, out_ops _ _ _]

theorem step16 (h : States (netOf m c) 16 (W42 m ρ c (Proc.devRef .tc main_v344_0)) (W42 m ρ c (Proc.devRef .tc main_v344_1))) :
    States (netOf m c) 17 (W44 m ρ c (Proc.devRef .tc main_v364_0)) (W44 m ρ c (Proc.devRef .tc main_v364_1))
    ∧ W50 m ρ c (Proc.devRef .tc main_v349) = outAt (netOf m c).wp (netOf m c).bp ((netOf m c).state 16).1 := by
  have s := step_of operands16 (V43 m ρ c) 16 (fun _ => cellWord_lt _ _)
    (base_of m ρ c fun r hr => keep42 m ρ c r ((by decide +kernel : ∀ r ∈ baseRefs, r ∉ tail42) r hr)) h (fed16 (W42 m ρ c))
    (W43_of m ρ c main_arg4 (by decide +kernel)) (W43_of m ρ c main_v25 (by decide +kernel)) (W43_of m ρ c main_v344_1 (by decide +kernel))
    (dat16 (V43 m ρ) c) (after16_6 (V43 m ρ) c) (after16_7 (V43 m ρ) c)
  exact ⟨⟨(W44_arr m ρ c 6).trans s.1.1, (W44_arr m ρ c 7).trans s.1.2⟩,
    (keep44 m ρ c main_v349 (by decide +kernel)).trans ((W44_of m ρ c main_v349 (by decide +kernel)).trans s.2)⟩

abbrev operands17 : Operands where
  o0 := ⟨Memref.whole main_v381, stage17_0, sem17_0, Memref.isWhole_whole _, hstage17_0⟩
  o1 := ⟨Memref.whole main_v383, stage17_1, sem17_1, Memref.isWhole_whole _, hstage17_1⟩
  o2 := ⟨Memref.whole main_v374, stage17_2, sem17_2, Memref.isWhole_whole _, hstage17_2⟩
  o3 := ⟨Memref.whole main_arg4, stage17_3, sem17_3, Memref.isWhole_whole _, hstage17_3⟩
  o4 := ⟨Memref.whole main_v25, stage17_4, sem17_4, Memref.isWhole_whole _, hstage17_4⟩
  o5 := ⟨Memref.whole main_v364_1, stage17_5, sem17_5, Memref.isWhole_whole _, hstage17_5⟩
  o6 := ⟨Memref.whole main_v384_0, stage17_6, sem17_6, Memref.isWhole_whole _, hstage17_6⟩
  o7 := ⟨Memref.whole main_v384_1, stage17_7, sem17_7, Memref.isWhole_whole _, hstage17_7⟩

theorem fed17 (V : Valuation τ sig (Elt Ideal)) :
    Fed 17 V (V (Proc.devRef .tc main_v364_0)) (after hostOps17 V (Proc.devRef .tc main_v381)) (after hostOps17 V (Proc.devRef .tc main_v383))
      (after hostOps17 V (Proc.devRef .tc main_v374)) (after hostOps17 V (Proc.devRef .tc main_v369)) := by
  constructor <;> after_reads_simp
  exacts [ge_ops _ _ _ 17 _, gid_ops _ 17 _, sums_ops _ 17 _ _, out_ops _ _ _]

theorem step17 (h : States (netOf m c) 17 (W44 m ρ c (Proc.devRef .tc main_v364_0)) (W44 m ρ c (Proc.devRef .tc main_v364_1))) :
    States (netOf m c) 18 (W46 m ρ c (Proc.devRef .tc main_v384_0)) (W46 m ρ c (Proc.devRef .tc main_v384_1))
    ∧ W50 m ρ c (Proc.devRef .tc main_v369) = outAt (netOf m c).wp (netOf m c).bp ((netOf m c).state 17).1 := by
  have s := step_of operands17 (V45 m ρ c) 17 (fun _ => cellWord_lt _ _)
    (base_of m ρ c fun r hr => keep44 m ρ c r ((by decide +kernel : ∀ r ∈ baseRefs, r ∉ tail44) r hr)) h (fed17 (W44 m ρ c))
    (W45_of m ρ c main_arg4 (by decide +kernel)) (W45_of m ρ c main_v25 (by decide +kernel)) (W45_of m ρ c main_v364_1 (by decide +kernel))
    (dat17 (V45 m ρ) c) (after17_6 (V45 m ρ) c) (after17_7 (V45 m ρ) c)
  exact ⟨⟨(W46_arr m ρ c 6).trans s.1.1, (W46_arr m ρ c 7).trans s.1.2⟩,
    (keep46 m ρ c main_v369 (by decide +kernel)).trans ((W46_of m ρ c main_v369 (by decide +kernel)).trans s.2)⟩

abbrev operands18 : Operands where
  o0 := ⟨Memref.whole main_v401, stage18_0, sem18_0, Memref.isWhole_whole _, hstage18_0⟩
  o1 := ⟨Memref.whole main_v403, stage18_1, sem18_1, Memref.isWhole_whole _, hstage18_1⟩
  o2 := ⟨Memref.whole main_v394, stage18_2, sem18_2, Memref.isWhole_whole _, hstage18_2⟩
  o3 := ⟨Memref.whole main_arg4, stage18_3, sem18_3, Memref.isWhole_whole _, hstage18_3⟩
  o4 := ⟨Memref.whole main_v25, stage18_4, sem18_4, Memref.isWhole_whole _, hstage18_4⟩
  o5 := ⟨Memref.whole main_v384_1, stage18_5, sem18_5, Memref.isWhole_whole _, hstage18_5⟩
  o6 := ⟨Memref.whole main_v404_0, stage18_6, sem18_6, Memref.isWhole_whole _, hstage18_6⟩
  o7 := ⟨Memref.whole main_v404_1, stage18_7, sem18_7, Memref.isWhole_whole _, hstage18_7⟩

theorem fed18 (V : Valuation τ sig (Elt Ideal)) :
    Fed 18 V (V (Proc.devRef .tc main_v384_0)) (after hostOps18 V (Proc.devRef .tc main_v401)) (after hostOps18 V (Proc.devRef .tc main_v403))
      (after hostOps18 V (Proc.devRef .tc main_v394)) (after hostOps18 V (Proc.devRef .tc main_v389)) := by
  constructor <;> after_reads_simp
  exacts [ge_ops _ _ _ 18 _, gid_ops _ 18 _, sums_ops _ 18 _ _, out_ops _ _ _]

theorem step18 (h : States (netOf m c) 18 (W46 m ρ c (Proc.devRef .tc main_v384_0)) (W46 m ρ c (Proc.devRef .tc main_v384_1))) :
    States (netOf m c) 19 (W48 m ρ c (Proc.devRef .tc main_v404_0)) (W48 m ρ c (Proc.devRef .tc main_v404_1))
    ∧ W50 m ρ c (Proc.devRef .tc main_v389) = outAt (netOf m c).wp (netOf m c).bp ((netOf m c).state 18).1 := by
  have s := step_of operands18 (V47 m ρ c) 18 (fun _ => cellWord_lt _ _)
    (base_of m ρ c fun r hr => keep46 m ρ c r ((by decide +kernel : ∀ r ∈ baseRefs, r ∉ tail46) r hr)) h (fed18 (W46 m ρ c))
    (W47_of m ρ c main_arg4 (by decide +kernel)) (W47_of m ρ c main_v25 (by decide +kernel)) (W47_of m ρ c main_v384_1 (by decide +kernel))
    (dat18 (V47 m ρ) c) (after18_6 (V47 m ρ) c) (after18_7 (V47 m ρ) c)
  exact ⟨⟨(W48_arr m ρ c 6).trans s.1.1, (W48_arr m ρ c 7).trans s.1.2⟩,
    (keep48 m ρ c main_v389 (by decide +kernel)).trans ((W48_of m ρ c main_v389 (by decide +kernel)).trans s.2)⟩

abbrev operands19 : Operands where
  o0 := ⟨Memref.whole main_v421, stage19_0, sem19_0, Memref.isWhole_whole _, hstage19_0⟩
  o1 := ⟨Memref.whole main_v423, stage19_1, sem19_1, Memref.isWhole_whole _, hstage19_1⟩
  o2 := ⟨Memref.whole main_v414, stage19_2, sem19_2, Memref.isWhole_whole _, hstage19_2⟩
  o3 := ⟨Memref.whole main_arg4, stage19_3, sem19_3, Memref.isWhole_whole _, hstage19_3⟩
  o4 := ⟨Memref.whole main_v25, stage19_4, sem19_4, Memref.isWhole_whole _, hstage19_4⟩
  o5 := ⟨Memref.whole main_v404_1, stage19_5, sem19_5, Memref.isWhole_whole _, hstage19_5⟩
  o6 := ⟨Memref.whole main_v424_0, stage19_6, sem19_6, Memref.isWhole_whole _, hstage19_6⟩
  o7 := ⟨Memref.whole main_v424_1, stage19_7, sem19_7, Memref.isWhole_whole _, hstage19_7⟩

theorem fed19 (V : Valuation τ sig (Elt Ideal)) :
    Fed 19 V (V (Proc.devRef .tc main_v404_0)) (after hostOps19 V (Proc.devRef .tc main_v421)) (after hostOps19 V (Proc.devRef .tc main_v423))
      (after hostOps19 V (Proc.devRef .tc main_v414)) (after hostOps19 V (Proc.devRef .tc main_v409)) := by
  constructor <;> after_reads_simp
  exacts [ge_ops _ _ _ 19 _, gid_ops _ 19 _, sums_ops _ 19 _ _, out_ops _ _ _]

theorem step19 (h : States (netOf m c) 19 (W48 m ρ c (Proc.devRef .tc main_v404_0)) (W48 m ρ c (Proc.devRef .tc main_v404_1))) :
    States (netOf m c) 20 (W50 m ρ c (Proc.devRef .tc main_v424_0)) (W50 m ρ c (Proc.devRef .tc main_v424_1))
    ∧ W50 m ρ c (Proc.devRef .tc main_v409) = outAt (netOf m c).wp (netOf m c).bp ((netOf m c).state 19).1 := by
  have s := step_of operands19 (V49 m ρ c) 19 (fun _ => cellWord_lt _ _)
    (base_of m ρ c fun r hr => keep48 m ρ c r ((by decide +kernel : ∀ r ∈ baseRefs, r ∉ tail48) r hr)) h (fed19 (W48 m ρ c))
    (W49_of m ρ c main_arg4 (by decide +kernel)) (W49_of m ρ c main_v25 (by decide +kernel)) (W49_of m ρ c main_v404_1 (by decide +kernel))
    (dat19 (V49 m ρ) c) (after19_6 (V49 m ρ) c) (after19_7 (V49 m ρ) c)
  exact ⟨⟨(W50_arr m ρ c 6).trans s.1.1, (W50_arr m ρ c 7).trans s.1.2⟩,
    (keep50 m ρ c main_v409 (by decide +kernel)).trans ((W50_of m ρ c main_v409 (by decide +kernel)).trans s.2)⟩

end Cert.Social
-- ==== Proof.Final.lean ====
module

public import proofs.«01_k».proof.Proof.Stack
public import proofs.«01_k».proof.Proof.Step.Steps0
public import proofs.«01_k».proof.Proof.Step.Steps1
public import proofs.«01_k».proof.Proof.Step.Steps2
public import proofs.«01_k».proof.Proof.Step.Steps3

@[expose] public section

set_option maxRecDepth 16384

noncomputable section

namespace Cert.Social

open Idealize.ShloMosaic Idealize.ShloMosaic.TcCoe Idealize.ShloMosaic.StableHlo
open Cert.KernelIdeal Cert.KernelIdeal.Gen

/-! # What the kernel's program leaves in its three result buffers -/

variable (m : (ℓ : Loc nD τ sig) → Buf (Elt Ideal) ℓ) (ρ : Dev nD → PrngReg) (c : Dev nD)

/-- The twenty launches, one after the other: the last states, and the head's outputs of the first nineteen. -/
theorem launches : (W50 m ρ c (Proc.devRef .tc main_v424_0) = ((netOf m c).state 20).1
      ∧ W50 m ρ c (Proc.devRef .tc main_v424_1) = ((netOf m c).state 20).2) ∧ Heads (netOf m c) (W50 m ρ c) := by
  have s0 := step0 m ρ c
  have s1 := step1 m ρ c s0
  have s2 := step2 m ρ c s1.1
  have s3 := step3 m ρ c s2.1
  have s4 := step4 m ρ c s3.1
  have s5 := step5 m ρ c s4.1
  have s6 := step6 m ρ c s5.1
  have s7 := step7 m ρ c s6.1
  have s8 := step8 m ρ c s7.1
  have s9 := step9 m ρ c s8.1
  have s10 := step10 m ρ c s9.1
  have s11 := step11 m ρ c s10.1
  have s12 := step12 m ρ c s11.1
  have s13 := step13 m ρ c s12.1
  have s14 := step14 m ρ c s13.1
  have s15 := step15 m ρ c s14.1
  have s16 := step16 m ρ c s15.1
  have s17 := step17 m ρ c s16.1
  have s18 := step18 m ρ c s17.1
  have s19 := step19 m ρ c s18.1
  exact ⟨s19.1, s1.2, s2.2, s3.2, s4.2, s5.2, s6.2, s7.2, s8.2, s9.2, s10.2, s11.2, s12.2, s13.2, s14.2, s15.2, s16.2, s17.2, s18.2, s19.2⟩

theorem last_h : W52 m ρ c (Proc.devRef .tc main_v424_0) = ((netOf m c).state 20).1 :=
  (W52_of m ρ c main_v424_0 (by decide +kernel)).trans ((W51_of m ρ c main_v424_0 (by decide +kernel)).trans (launches m ρ c).1.1)

theorem last_c : W52 m ρ c (Proc.devRef .tc main_v424_1) = ((netOf m c).state 20).2 :=
  (W52_of m ρ c main_v424_1 (by decide +kernel)).trans ((W51_of m ρ c main_v424_1 (by decide +kernel)).trans (launches m ρ c).1.2)

theorem last_out : W52 m ρ c (Proc.devRef .tc main_v454) = cumOf (netOf m c).outs := by
  obtain ⟨bE, bG, bG3, bB, b3, b4, b5, b7, b8⟩ := base_of m ρ c (V := W50 m ρ c) fun _ _ => rfl
  exact (cum (W51 m ρ c)).trans (congrArg cumOf (stack (netOf m c) (W50 m ρ c) (launches m ρ c).2 b7 b8 (launches m ρ c).1.1))

end Cert.Social
-- ==== Proof.Launch.lean ====
module

public import proofs.«01_k».proof.Proof.Final
public import proofs.«01_k».proof.Proof.Gen.KernelIdeal.Frame

@[expose] public section

set_option maxRecDepth 16384

noncomputable section

namespace Cert.Social

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair run of the kernel ends with the arguments as launched, every semaphore at zero, and the three results at the
    recurrence's running sums and last states. The launch of the generated frame, its end read at the results as well. -/
theorem run_values : θ_run defs (onTc (τ := τ) (main (F := Ideal))) ⟨m, fun _ => 0, ρ⟩ (fun r => (∀ c : Dev nD,
      (r.2.mem ((c.tc : Thread nD τ).loc main_v454) = cumOf (netOf m c).outs
      ∧ r.2.mem ((c.tc : Thread nD τ).loc main_v424_0) = ((netOf m c).state 20).1
      ∧ r.2.mem ((c.tc : Thread nD τ).loc main_v424_1) = ((netOf m c).state 20).2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W52 m ρ c b)
    (hfin := fun c s' => by
      iintro ⟨⟨Hh, -⟩, HSI⟩
      unfold StableHlo.held
      imodintro
      iapply (pointsTo_read_all (Pipeline.ucRefs τ sig) (fun b => (((c : Thread nD τ)).1, b)) (W52 m ρ c) s')
      isplitl [Hh] <;> iassumption)
    (hQ := fun s h hz => ⟨(fun c =>
      ⟨⟨(h c _ (mem_uc main_v454 (by decide))).trans (last_out m ρ c), (h c _ (mem_uc main_v424_0 (by decide))).trans (last_h m ρ c),
        (h c _ (mem_uc main_v424_1 (by decide))).trans (last_c m ρ c)⟩,
       (h c _ (mem_uc main_arg0 (by decide))).trans (W52_main_arg0 m ρ c),
       (h c _ (mem_uc main_arg1 (by decide))).trans (W52_main_arg1 m ρ c),
       (h c _ (mem_uc main_arg2 (by decide))).trans (W52_main_arg2 m ρ c),
       (h c _ (mem_uc main_arg3 (by decide))).trans (W52_main_arg3 m ρ c),
       (h c _ (mem_uc main_arg4 (by decide))).trans (W52_main_arg4 m ρ c),
       (h c _ (mem_uc main_arg5 (by decide))).trans (W52_main_arg5 m ρ c),
       (h c _ (mem_uc main_arg6 (by decide))).trans (W52_main_arg6 m ρ c),
       (h c _ (mem_uc main_arg7 (by decide))).trans (W52_main_arg7 m ρ c),
       (h c _ (mem_uc main_arg8 (by decide))).trans (W52_main_arg8 m ρ c)⟩), funext fun g => hz g (.inr (no_unscoped g.2))⟩)

end Cert.Social
-- ==== Proof.Ref.Trip.lean ====
module

public import proofs.«01_k».proof.Proof.Spec
public import proofs.«01_k».proof.Proof.Gen.ReferenceIdeal.Run
public import Idealize.ShloMosaic.Lib.StableHlo.ReadAt
public import Idealize.ShloMosaic.Lib.Routing.Ops
import Idealize.ShloMosaic.Lib.WordCmp

@[expose] public section

set_option maxRecDepth 16384

noncomputable section

namespace Cert.Social

open Idealize.ShloMosaic Idealize.ShloMosaic.TcCoe Idealize.ShloMosaic.StableHlo
open Idealize.ShloMosaic.WordCmp
open Cert.ReferenceIdeal Cert.ReferenceIdeal.Gen Cert.ReferenceIdeal.Value

/-! # One trip of the reference's loop -/

variable (V : Valuation τ sig (Elt Ideal))

/-- The start that a trip's counter names is the trip's own time step. -/
theorem start_eq (t : Fin 20) : (BitVec.ofNat 32 t.val).toInt = t.val := by
  revert t; decide

/-- The clamped start of row `t`, a slice as wide as the array, is `t` on the first axis and zero on the other two. -/
theorem clamp_row (w : Nat) (t : Fin 20) (st : Fin 3 → Int) (h0 : st 0 = t.val) (h1 : st 1 = 0) (h2 : st 2 = 0)
    (hr : (⟨3, ![1, 16384, w]⟩ : Shape).rank = (⟨3, ![20, 16384, w]⟩ : Shape).rank) :
    Host.clampedStart ⟨3, ![20, 16384, w]⟩ ⟨3, ![1, 16384, w]⟩ hr st 0 = t.val
    ∧ Host.clampedStart ⟨3, ![20, 16384, w]⟩ ⟨3, ![1, 16384, w]⟩ hr st 1 = 0
    ∧ Host.clampedStart ⟨3, ![20, 16384, w]⟩ ⟨3, ![1, 16384, w]⟩ hr st 2 = 0 := by
  refine ⟨?_, ?_, ?_⟩
  · show (min (max (st 0) 0) ((20 - 1 : Nat) : Int)).toNat = t.val
    rw [h0]; omega
  · show (min (max (st 1) 0) ((16384 - 16384 : Nat) : Int)).toNat = 0
    rw [h1]; rfl
  · show (min (max (st 2) 0) ((w - w : Nat) : Int)).toNat = 0
    rw [h2]; omega

/-- The start words of a row read or a row write at trip `t`, as integers: the counter, then two zeros. -/
def starts (t : Fin 20) : Fin 3 → Int := fun k =>
  BitVec.toInt ((![fun _ => BitVec.ofNat 32 t.val, fun _ => 0#32, fun _ => 0#32] : Fin 3 → S_.Idx → BitVec 32) k
    (Shape.Idx.first h_S_))

/-- Two indices with the same coordinates are the same. -/
theorem ix3_congr {a b c : Nat} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

/-- The trip's points: row `t` of the transposed points. -/
theorem trip_x (t : Fin 20) (ht : V (Proc.devRef .tc main_v11_6) = fun _ => BitVec.ofNat 32 t.val) (n : Fin 16384) (j : Fin 3) :
    after while0Ops0 V (Proc.devRef .tc main_while0b_v19) (ix2 n j) = V (Proc.devRef .tc main_v11_0) (ix3 t n j) := by
  after_reads_simp [unaryIndexed_result_read, indexContents_tref_cons, indexContents_tref_empty]
  simp only [TRef.toBuf, TRef.ofBuf, cast_cast, cast_eq]
  clean_types
  pointwise [ht]
  obtain ⟨c0, c1, c2⟩ := clamp_row 3 t (starts t) (start_eq t) rfl rfl rfl
  exact congrArg _ (ix3_congr c0 ((congrArg (· + n.val) c1).trans (Nat.zero_add _)) ((congrArg (· + j.val) c2).trans (Nat.zero_add _)))

/-- The trip's embedding: row `t` of the transposed embedding. -/
theorem trip_e (t : Fin 20) (ht : V (Proc.devRef .tc main_v11_6) = fun _ => BitVec.ofNat 32 t.val) (n : Fin 16384) (j : Fin 64) :
    after while0Ops0_1 V (Proc.devRef .tc main_while0b_v20) (ix2 n j) = V (Proc.devRef .tc main_v11_1) (ix3 t n j) := by
  after_reads_simp [unaryIndexed_result_read, indexContents_tref_cons, indexContents_tref_empty]
  simp only [TRef.toBuf, TRef.ofBuf, cast_cast, cast_eq]
  clean_types
  pointwise [ht]
  obtain ⟨c0, c1, c2⟩ := clamp_row 64 t (starts t) (start_eq t) rfl rfl rfl
  exact congrArg _ (ix3_congr c0 ((congrArg (· + n.val) c1).trans (Nat.zero_add _)) ((congrArg (· + j.val) c2).trans (Nat.zero_add _)))

/-- The grid cells of the trip. -/
theorem trip_cell (n : Fin 16384) :
    afterL [while0Ops0_2, while0Ops0_3, while0Ops0_4, while0Ops0_5, while0Ops0_6, while0Ops0_7, while0Ops0_8, while0Ops0_9, while0Ops0_10] V
      (Proc.devRef .tc main_while0b_v43) (ix1 n)
    = cellWord (V (Proc.devRef .tc main_while0b_v19) (ix2 n 0)) (V (Proc.devRef .tc main_while0b_v19) (ix2 n 1)) := by
  simp only [afterL_cons, afterL_nil]
  after_reads_simp
  simp only [TRef.toBuf, TRef.ofBuf, cast_cast, cast_eq, id_eq]
  clean_types
  pointwise []
  rfl

/-- The sum of the point's grid cell: the take in bounds reads the row of the cell. -/
theorem trip_take (hg : ∀ n, (V (Proc.devRef .tc main_while0b_v43) (ix1 n) : BitVec 32).toNat < 64) (n : Fin 16384) (j : Fin 128) :
    after while0Ops0_11 V (Proc.devRef .tc main_while0b_v47) (ix2 n j)
      = V (Proc.devRef .tc main_while0b_v46) (ix2 (cellOf (V (Proc.devRef .tc main_while0b_v43) (ix1 n))) j) := by
  after_reads_simp
  simp -implicitDefEqProofs only [TRef.toBuf, TRef.ofBuf, cast_cast, cast_eq, id_eq]
  clean_types
  pointwise []
  generalize hb : V (Proc.devRef .tc main_while0b_v43) = b at *
  have e : Scalar.select (IntOp.cmpi .slt (b (ix1 n)) 0#32) (IntOp.addi (b (ix1 n)) 64#32) (b (ix1 n)) = b (ix1 n) := by
    rw [cmpi_slt_zero, decide_eq_false (by have := hg n; omega)]; rfl
  have e1 : IntOp.andi (IntOp.cmpi .sge (b (ix1 n)) 0#32) (IntOp.cmpi .sle (b (ix1 n)) 63#32) = 1#1 := by
    rw [cmpi_sge_zero, decide_eq_true (by have := hg n; omega),
      cmpi_sle_of_lt (by have := hg n; omega) (by decide), decide_eq_true (by have := hg n; exact Nat.le_of_lt_succ this)]
    rfl
  simp only [e, e1]
  refine (select_of_eq_one (by rfl) _ _).trans ?_
  refine Routing.gather_row _ rfl rfl rfl rfl rfl _ _ n j _ ?_ (by decide)
  rw [ofNat_cellOf (hg n)]
  pointwise []
  exact e

end Cert.Social
-- ==== Proof.Ref.Step.lean ====
module

public import proofs.«01_k».proof.Proof.Ref.Trip

@[expose] public section

set_option maxRecDepth 16384

noncomputable section

namespace Cert.Social

open Idealize.ShloMosaic Idealize.ShloMosaic.TcCoe Idealize.ShloMosaic.StableHlo
open Cert.ReferenceIdeal Cert.ReferenceIdeal.Gen Cert.ReferenceIdeal.Value

/-! # The states one trip of the reference's loop leaves -/

variable (V : Valuation τ sig (Elt Ideal))

/-- The sums by grid cell of a trip. -/
theorem trip_sums (G : Vec Ideal Cert.KernelIdeal.S20x16384 .i32) (t : Fin 20)
    (hg : ∀ n : Fin 16384, after while0Ops0_10 V (Proc.devRef .tc main_while0b_v43) (ix1 n) = G (ix2 t n)) :
    after while0Ops0_10 V (Proc.devRef .tc main_while0b_v46) = sumsAt G t (V (Proc.devRef .tc main_v11_7)) := by
  have e : after while0Ops0_10 V (Proc.devRef .tc main_while0b_v46)
      = Host.scatterAdd (F := Ideal) (φ := .f32) scatter_S64x128_S16384x1_S16384x128_1_0_0_1
          (broadcastInDim S64x128 ![] bcast_S_S64x128 (constant (F := Ideal) S_ .f32 0x00000000#32))
          (broadcastInDim S16384x1 ![0] bcast_S16384_S16384x1_0 (after while0Ops0_10 V (Proc.devRef .tc main_while0b_v43)))
          (V (Proc.devRef .tc main_v11_7)) := by
    after_reads_simp
  rw [e]
  generalize after while0Ops0_10 V (Proc.devRef .tc main_while0b_v43) = w at *
  refine sumsAt_of (funext fun i => ?_) fun n => Eq.trans ?_ (hg n)
  · rw [eq_ix2 i]; pointwise []
  · pointwise []

/-- The gates a trip computes. -/
theorem trip_gates (N : Net) (t : Fin 20) (sums : Vec Ideal S64x128 .f32)
    (he : ∀ (n : Fin 16384) (x : Fin 64), V (Proc.devRef .tc main_while0b_v20) (ix2 n x) = N.E (ix3 n t x))
    (hn : ∀ (n : Fin 16384) (k : Fin 128), V (Proc.devRef .tc main_while0b_v47) (ix2 n k) = sums (ix2 (cellOf (N.G (ix2 t n))) k))
    (h2 : V (Proc.devRef .tc main_v11_2) = N.wi) (h3 : V (Proc.devRef .tc main_v11_3) = N.bi)
    (h4 : V (Proc.devRef .tc main_v11_4) = N.wh) (h5 : V (Proc.devRef .tc main_v11_5) = N.bh) (n : Fin 16384) (j : Fin 512) :
    after while0Ops0_12 V (Proc.devRef .tc main_while0b_v58) (ix2 n j)
      = gates (mat (geAt N.E N.wi N.bi t)) (fun r => cellOf (N.row t (ix2 0 r))) (mat sums) (mat N.wh) (mat N.bias 0) n j := by
  after_reads_simp
  pointwise [he, hn, h2, h3, h4, h5]
  rfl

/-- The cell state a trip computes, from its gates. -/
theorem trip_c (gt : Fin 16384 → Fin 512 → EReal)
    (hgt : ∀ n j, after while0Ops0_12 V (Proc.devRef .tc main_while0b_v58) (ix2 n j) = gt n j) (n : Fin 16384) (j : Fin 128) :
    after while0Ops0_12 V (Proc.devRef .tc main_while0b_v84) (ix2 n j) = cNext gt (mat (V (Proc.devRef .tc main_v11_8))) n j := by
  unfold cNext
  simp only [← hgt]
  after_reads_simp
  pointwise []
  rfl

/-- The hidden state a trip computes, from its gates. -/
theorem trip_h (gt : Fin 16384 → Fin 512 → EReal)
    (hgt : ∀ n j, after while0Ops0_12 V (Proc.devRef .tc main_while0b_v58) (ix2 n j) = gt n j) (n : Fin 16384) (j : Fin 128) :
    after while0Ops0_12 V (Proc.devRef .tc main_while0b_v86) (ix2 n j) = hNext gt (mat (V (Proc.devRef .tc main_v11_8))) n j := by
  unfold hNext
  rw [← trip_c V gt hgt]
  simp only [← hgt]
  after_reads_simp
  pointwise []
  rfl

/-- Two indices with the same coordinates are the same. -/
theorem ix2_congr {a b : Nat} {i i' : Fin a} {j j' : Fin b} (hi : i.val = i'.val) (hj : j.val = j'.val) : ix2 i j = ix2 i' j' := by
  rw [Fin.ext hi, Fin.ext hj]

/-- The hidden states by time step after a trip: row `t` is the trip's hidden state, the others are as before. -/
theorem trip_rows (t : Fin 20) (ht : V (Proc.devRef .tc main_v11_6) = fun _ => BitVec.ofNat 32 t.val) (s : Fin 20) (n : Fin 16384) (j : Fin 128) :
    after while0Ops0_13 V (Proc.devRef .tc main_while0b_v87) (ix3 s n j)
      = if s = t then V (Proc.devRef .tc main_while0b_v86) (ix2 n j) else V (Proc.devRef .tc main_v11_9) (ix3 s n j) := by
  after_reads_simp [binaryIndexed_result_read, indexContents_tref_cons, indexContents_tref_empty]
  simp only [TRef.toBuf, TRef.ofBuf, cast_cast, cast_eq, id_eq]
  clean_types
  pointwise [ht]
  obtain ⟨c0, c1, c2⟩ := clamp_row 128 t (starts t) (start_eq t) rfl rfl rfl
  by_cases hs : s = t
  · subst hs
    rw [if_pos rfl]
    refine (dif_pos ⟨⟨le_of_eq c0, Nat.lt_succ_of_le (le_of_eq c0.symm)⟩, le_of_eq_of_le c1 (Nat.zero_le _), le_of_eq_of_le c2 (Nat.zero_le _)⟩).trans ?_
    exact congrArg _ (ix2_congr ((congrArg (n.val - ·) c1).trans (Nat.sub_zero _)) ((congrArg (j.val - ·) c2).trans (Nat.sub_zero _)))
  · rw [if_neg hs]
    refine dif_neg fun h => hs (Fin.ext (Nat.le_antisymm (Nat.le_of_lt_succ (lt_of_lt_of_eq h.1.2 (congrArg (· + 1) c0))) (le_of_eq_of_le c0.symm h.1.1)))

/-- What a trip carries to the next one. -/
theorem trip_carry : after while0Ops0_14 V (Proc.devRef .tc main_v11_7) = V (Proc.devRef .tc main_while0b_v86)
    ∧ after while0Ops0_14 V (Proc.devRef .tc main_v11_8) = V (Proc.devRef .tc main_while0b_v84)
    ∧ after while0Ops0_14 V (Proc.devRef .tc main_v11_9) = V (Proc.devRef .tc main_while0b_v87) := by
  refine ⟨?_, ?_, ?_⟩ <;> after_reads_simp <;> rfl

/-! ## The whole trip -/

/-- Stretches of operations leave a buffer that none of them writes. -/
theorem afterL_keep {opss : List (List (HloOp τ sig (Elt Ideal)))} {Ws : List (List (Ref sig .tc))}
    (h : List.Forall₂ (fun ops W => ops.Forall fun op => op.writes ⊆ (W.map (Proc.devRef (τ := τ) .tc)).toFinset) opss Ws)
    (r : Ref sig .tc) (hr : r ∉ Ws.flatten) (V : Valuation τ sig (Elt Ideal)) :
    afterL opss V (Proc.devRef .tc r) = V (Proc.devRef .tc r) := by
  induction h generalizing V with
  | nil => rfl
  | cons h _ ih =>
    rw [List.flatten_cons, List.mem_append, not_or] at hr
    exact (ih hr.2 _).trans (after_of_writes_sub _ V h hr.1)

/-- What the stretches before the sums write. -/
abbrev cellW : List (List (Ref sig .tc)) := [while0Ops0_2_W, while0Ops0_3_W, while0Ops0_4_W, while0Ops0_5_W, while0Ops0_6_W, while0Ops0_7_W, while0Ops0_8_W, while0Ops0_9_W]
abbrev cellOps : List (List (HloOp τ sig (Elt Ideal))) :=
  [while0Ops0_2, while0Ops0_3, while0Ops0_4, while0Ops0_5, while0Ops0_6, while0Ops0_7, while0Ops0_8, while0Ops0_9]
theorem cell_writes : List.Forall₂ (fun (ops : List (HloOp τ sig (Elt Ideal))) W => ops.Forall fun op => op.writes ⊆ (W.map (Proc.devRef (τ := τ) .tc)).toFinset)
    cellOps cellW :=
  .cons while0Ops0_2_writes (.cons while0Ops0_3_writes (.cons while0Ops0_4_writes (.cons while0Ops0_5_writes (.cons while0Ops0_6_writes
    (.cons while0Ops0_7_writes (.cons while0Ops0_8_writes (.cons while0Ops0_9_writes .nil)))))))

/-- What the stretches that read the rows and find the cells write. -/
abbrev headW : List (Ref sig .tc) := while0Ops0_W ++ while0Ops0_1_W
/-- What the stretches from the cells to the take write. -/
abbrev midW : List (Ref sig .tc) := cellW.flatten ++ while0Ops0_10_W ++ while0Ops0_11_W
/-- What the stretches after the take write. -/
abbrev lastW : List (Ref sig .tc) := while0Ops0_12_W ++ while0Ops0_13_W ++ while0Ops0_14_W

theorem head_keep (r : Ref sig .tc) (hr : r ∉ headW) :
    after while0Ops0_1 (after while0Ops0 V) (Proc.devRef .tc r) = V (Proc.devRef .tc r) := by
  rw [List.mem_append, not_or] at hr
  exact (after_of_writes_sub _ _ while0Ops0_1_writes hr.2).trans (after_of_writes_sub _ _ while0Ops0_writes hr.1)

theorem mid_keep (r : Ref sig .tc) (hr : r ∉ midW) :
    after while0Ops0_11 (after while0Ops0_10 (afterL cellOps V)) (Proc.devRef .tc r) = V (Proc.devRef .tc r) := by
  rw [List.mem_append, not_or, List.mem_append, not_or] at hr
  exact (after_of_writes_sub _ _ while0Ops0_11_writes hr.2).trans ((after_of_writes_sub _ _ while0Ops0_10_writes hr.1.2).trans
    (afterL_keep cell_writes r hr.1.1 V))

theorem last_keep (r : Ref sig .tc) (hr : r ∉ lastW) :
    after while0Ops0_14 (after while0Ops0_13 (after while0Ops0_12 V)) (Proc.devRef .tc r) = V (Proc.devRef .tc r) := by
  rw [List.mem_append, not_or, List.mem_append, not_or] at hr
  exact (after_of_writes_sub _ _ while0Ops0_14_writes hr.2).trans ((after_of_writes_sub _ _ while0Ops0_13_writes hr.1.2).trans
    (after_of_writes_sub _ _ while0Ops0_12_writes hr.1.1))

/-- A trip leaves a buffer that no stretch of it writes. -/
theorem body_keep (r : Ref sig .tc) (h0 : r ∉ headW) (h1 : r ∉ midW) (h2 : r ∉ lastW) :
    afterL bodyI V (Proc.devRef .tc r) = V (Proc.devRef .tc r) :=
  (last_keep _ r h2).trans ((mid_keep _ r h1).trans (head_keep V r h0))

/-- What the loop's buffers hold before trip `k`: the recurrence's inputs, its states and the hidden states so far. -/
structure Carry (N : Net) (k : ℕ) (V : Valuation τ sig (Elt Ideal)) : Prop where
  x : ∀ (t : Fin 20) (n : Fin 16384), cellWord (V (Proc.devRef .tc main_v11_0) (ix3 t n 0)) (V (Proc.devRef .tc main_v11_0) (ix3 t n 1)) = N.G (ix2 t n)
  e : ∀ (t : Fin 20) (n : Fin 16384) (j : Fin 64), V (Proc.devRef .tc main_v11_1) (ix3 t n j) = N.E (ix3 n t j)
  wi : V (Proc.devRef .tc main_v11_2) = N.wi
  bi : V (Proc.devRef .tc main_v11_3) = N.bi
  wh : V (Proc.devRef .tc main_v11_4) = N.wh
  bh : V (Proc.devRef .tc main_v11_5) = N.bh
  h : V (Proc.devRef .tc main_v11_7) = (N.state k).1
  c : V (Proc.devRef .tc main_v11_8) = (N.state k).2
  rows : ∀ (s : Fin 20), s.val < k → ∀ (n : Fin 16384) (j : Fin 128), V (Proc.devRef .tc main_v11_9) (ix3 s n j) = (N.state (s.val + 1)).1 (ix2 n j)

/-- A trip takes the recurrence one step on. -/
theorem Carry.step {N : Net} (hN : ∀ i, (N.G i : BitVec 32).toNat < 64) {t : Fin 20} {V : Valuation τ sig (Elt Ideal)}
    (ht : V (Proc.devRef .tc main_v11_6) = fun _ => BitVec.ofNat 32 t.val) (C : Carry N t.val V) : Carry N (t.val + 1) (afterL bodyI V) := by
  have hk : Fin.ofNat 20 t.val = t := Fin.ext (Nat.mod_eq_of_lt t.isLt)
  have ht1 : after while0Ops0 V (Proc.devRef .tc main_v11_6) = fun _ => BitVec.ofNat 32 t.val :=
    (after_of_writes_sub _ V while0Ops0_writes (by decide +kernel)).trans ht
  have x19 := trip_x V t ht
  have x20 := trip_e (after while0Ops0 V) t ht1
  have k0 := head_keep V
  rw [show afterL bodyI V = after while0Ops0_14 (after while0Ops0_13 (after while0Ops0_12 (after while0Ops0_11 (after while0Ops0_10
    (afterL cellOps (after while0Ops0_1 (after while0Ops0 V))))))) from rfl]
  have y19 : ∀ n j, after while0Ops0_1 (after while0Ops0 V) (Proc.devRef .tc main_while0b_v19) (ix2 n j) = V (Proc.devRef .tc main_v11_0) (ix3 t n j) :=
    fun n j => (congrFun (after_of_writes_sub _ _ while0Ops0_1_writes (by decide +kernel)) _).trans (x19 n j)
  have y20 : ∀ (n : Fin 16384) (j : Fin 64), after while0Ops0_1 (after while0Ops0 V) (Proc.devRef .tc main_while0b_v20) (ix2 n j) = N.E (ix3 n t j) :=
    fun n j => (x20 n j).trans ((congrFun (after_of_writes_sub _ V while0Ops0_writes (by decide +kernel)) _).trans (C.e t n j))
  generalize after while0Ops0_1 (after while0Ops0 V) = V₂ at *
  have cell : ∀ n : Fin 16384, after while0Ops0_10 (afterL cellOps V₂) (Proc.devRef .tc main_while0b_v43) (ix1 n) = N.G (ix2 t n) := fun n =>
    (trip_cell V₂ n).trans (by rw [y19, y19]; exact C.x t n)
  have sums := trip_sums _ N.G t cell
  rw [afterL_keep cell_writes main_v11_7 (by decide +kernel), k0 _ (by decide +kernel), C.h] at sums
  have take := trip_take (after while0Ops0_10 (afterL cellOps V₂)) (fun n => by rw [cell]; exact hN _)
  simp only [cell, sums] at take
  have k1 := mid_keep V₂
  generalize after while0Ops0_11 (after while0Ops0_10 (afterL cellOps V₂)) = V₅ at *
  have gts := trip_gates V₅ N t _ (fun n x => (congrFun (k1 _ (by decide +kernel)) _).trans (y20 n x)) take
    ((k1 _ (by decide +kernel)).trans ((k0 _ (by decide +kernel)).trans C.wi)) ((k1 _ (by decide +kernel)).trans ((k0 _ (by decide +kernel)).trans C.bi))
    ((k1 _ (by decide +kernel)).trans ((k0 _ (by decide +kernel)).trans C.wh)) ((k1 _ (by decide +kernel)).trans ((k0 _ (by decide +kernel)).trans C.bh))
  have c8 : V₅ (Proc.devRef .tc main_v11_8) = (N.state t.val).2 := (k1 _ (by decide +kernel)).trans ((k0 _ (by decide +kernel)).trans C.c)
  have vc : after while0Ops0_12 V₅ (Proc.devRef .tc main_while0b_v84) = (N.state (t.val + 1)).2 := by
    funext i
    rw [eq_ix2 i]
    refine (trip_c V₅ _ gts (i 0) (i 1)).trans ?_
    rw [c8]; simp only [Net.state, hk]; rfl
  have vh : after while0Ops0_12 V₅ (Proc.devRef .tc main_while0b_v86) = (N.state (t.val + 1)).1 := by
    funext i
    rw [eq_ix2 i]
    refine (trip_h V₅ _ gts (i 0) (i 1)).trans ?_
    rw [c8]; simp only [Net.state, hk]; rfl
  have rows := trip_rows (after while0Ops0_12 V₅) t ((after_of_writes_sub _ _ while0Ops0_12_writes (by decide +kernel)).trans
    ((k1 _ (by decide +kernel)).trans ((k0 _ (by decide +kernel)).trans ht)))
  rw [vh, after_of_writes_sub (r := main_v11_9) _ _ while0Ops0_12_writes (by decide +kernel), k1 _ (by decide +kernel), k0 _ (by decide +kernel)] at rows
  obtain ⟨l7, l8, l9⟩ := trip_carry (after while0Ops0_13 (after while0Ops0_12 V₅))
  have k2 : ∀ r, r ∉ headW → r ∉ midW → r ∉ lastW →
      after while0Ops0_14 (after while0Ops0_13 (after while0Ops0_12 V₅)) (Proc.devRef .tc r) = V (Proc.devRef .tc r) :=
    fun r h0 h1 h2 => (last_keep V₅ r h2).trans ((k1 r h1).trans (k0 r h0))
  have k3 : ∀ r, r ∉ while0Ops0_13_W → after while0Ops0_13 (after while0Ops0_12 V₅) (Proc.devRef .tc r) = after while0Ops0_12 V₅ (Proc.devRef .tc r) :=
    fun r h => after_of_writes_sub _ _ while0Ops0_13_writes h
  constructor
  · intro t n
    rw [k2 _ (by decide +kernel) (by decide +kernel) (by decide +kernel)]; exact C.x t n
  · intro t n j
    rw [k2 _ (by decide +kernel) (by decide +kernel) (by decide +kernel)]; exact C.e t n j
  · exact (k2 _ (by decide +kernel) (by decide +kernel) (by decide +kernel)).trans C.wi
  · exact (k2 _ (by decide +kernel) (by decide +kernel) (by decide +kernel)).trans C.bi
  · exact (k2 _ (by decide +kernel) (by decide +kernel) (by decide +kernel)).trans C.wh
  · exact (k2 _ (by decide +kernel) (by decide +kernel) (by decide +kernel)).trans C.bh
  · exact l7.trans ((k3 _ (by decide +kernel)).trans vh)
  · exact l8.trans ((k3 _ (by decide +kernel)).trans vc)
  · intro s hs n j
    rw [l9, rows]
    by_cases e : s = t
    · rw [if_pos e, e]
    · rw [if_neg e]
      exact C.rows s (Nat.lt_of_le_of_ne (Nat.le_of_lt_succ hs) fun h => e (Fin.ext h)) n j

end Cert.Social
-- ==== Proof.Ref.Run.lean ====
module

public import proofs.«01_k».proof.Proof.Ref.Step
public import proofs.«01_k».proof.Proof.Stack
import Idealize.ShloMosaic.Lib.Quiescent

@[expose] public section

set_option maxRecDepth 16384

noncomputable section

namespace Cert.Social

open Idealize.ShloMosaic Idealize.ShloMosaic.TcCoe Idealize.ShloMosaic.StableHlo Idealize.SL.Sem
open Cert.ReferenceIdeal Cert.ReferenceIdeal.Gen Cert.ReferenceIdeal.Value

/-! # The reference's run: into the loop, twenty trips, out of the loop -/

section Ends
variable (V : Valuation τ sig (Elt Ideal))

/-- The recurrence over the arguments that a valuation holds. -/
def netIn : Net :=
  net (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8))

/-- The zeros the states start from. -/
theorem zeros : broadcastInDim S16384x128 ![] bcast_S_S16384x128 (constant (F := Ideal) S_ .f32 0x00000000#32) = fun _ => (0 : EReal) := by
  funext i
  rw [eq_ix2 i]
  pointwise []

/-- Before the first trip the loop's buffers hold the recurrence's inputs and zero states. -/
theorem carry_entry : Carry (netIn V) 0 (afterL preI V) := by
  simp only [afterL_cons, afterL_nil]
  constructor
  · intro t n
    after_reads_simp
    simp only [id_eq]
    pointwise []
    rfl
  · intro t n j
    after_reads_simp
    simp only [TRef.toBuf, TRef.ofBuf, cast_cast, cast_eq, id_eq]
    clean_types
    pointwise []
    rfl
  · after_reads_simp; rfl
  · after_reads_simp; rfl
  · after_reads_simp; rfl
  · after_reads_simp; rfl
  · after_reads_simp; exact zeros
  · after_reads_simp; exact zeros
  · intro s hs
    exact absurd hs (Nat.not_lt_zero _)

/-- The output head after the loop, over every time step's hidden state. -/
theorem post_outs (N : Net) (hr : ∀ (s : Fin 20) (n : Fin 16384) (j : Fin 128), V (Proc.devRef .tc main_v11_9) (ix3 s n j) = (N.state (s.val + 1)).1 (ix2 n j))
    (hw : V (Proc.devRef .tc main_arg7) = N.wp) (hb : V (Proc.devRef .tc main_arg8) = N.bp) :
    after hostOps0_3 V (Proc.devRef .tc main_v17) = N.outs := by
  funext i
  rw [eq_ix3 i]
  after_reads_simp
  pointwise [hr, hw, hb]
  rfl

/-- The running sums after the loop. -/
theorem post_cum : after hostOps0_4 V (Proc.devRef .tc main_v18) = cumOf (V (Proc.devRef .tc main_v17)) := by
  after_reads_simp
  simp only [TRef.toBuf, TRef.ofBuf, cast_cast, cast_eq]
  rfl

/-! ## Buffers that the program leaves -/

/-- What the stretches before the loop write. -/
abbrev preW : List (Ref sig .tc) := hostOps0_W ++ hostOps0_1_W ++ hostOps0_2_W
/-- What the stretches after the loop write. -/
abbrev postW : List (Ref sig .tc) := hostOps0_3_W ++ hostOps0_4_W

theorem pre_keep (r : Ref sig .tc) (hr : r ∉ preW) : afterL preI V (Proc.devRef .tc r) = V (Proc.devRef .tc r) := by
  rw [List.mem_append, not_or, List.mem_append, not_or] at hr
  exact (after_of_writes_sub _ _ hostOps0_2_writes hr.2).trans ((after_of_writes_sub _ _ hostOps0_1_writes hr.1.2).trans
    (after_of_writes_sub _ _ hostOps0_writes hr.1.1))

theorem post_keep (r : Ref sig .tc) (hr : r ∉ postW) : afterL postI V (Proc.devRef .tc r) = V (Proc.devRef .tc r) := by
  rw [List.mem_append, not_or] at hr
  exact (after_of_writes_sub _ _ hostOps0_4_writes hr.2).trans (after_of_writes_sub _ _ hostOps0_3_writes hr.1)

/-- The condition's operations leave what a trip starts from. -/
theorem Carry.cond {N : Net} {k : ℕ} {V : Valuation τ sig (Elt Ideal)} (C : Carry N k V) : Carry N k (after condOps V) := by
  have e : ∀ r, r ∉ condOps_W → after condOps V (Proc.devRef .tc r) = V (Proc.devRef .tc r) := fun r h => after_of_writes_sub _ V condOps_writes h
  constructor
  · intro t n; rw [e _ (by decide +kernel)]; exact C.x t n
  · intro t n j; rw [e _ (by decide +kernel)]; exact C.e t n j
  · exact (e _ (by decide +kernel)).trans C.wi
  · exact (e _ (by decide +kernel)).trans C.bi
  · exact (e _ (by decide +kernel)).trans C.wh
  · exact (e _ (by decide +kernel)).trans C.bh
  · exact (e _ (by decide +kernel)).trans C.h
  · exact (e _ (by decide +kernel)).trans C.c
  · intro s hs n j; rw [e _ (by decide +kernel)]; exact C.rows s hs n j

end Ends

variable (m : (ℓ : Loc nD τ sig) → Buf (Elt Ideal) ℓ) (ρ : Dev nD → PrngReg) (c : Dev nD)

/-- The recurrence over the arguments in the reference's memory. -/
abbrev netRef : Net := netIn (launchContents m c)

/-- Every grid cell of the recurrence is below 64. -/
theorem netRef_cells (i : Cert.KernelIdeal.S20x16384.Idx) : ((netRef m c).G i : BitVec 32).toNat < 64 := cellWord_lt _ _

/-- Before trip `k` the loop's buffers hold the recurrence after `k` steps. -/
theorem carry_trip : ∀ k ≤ 20, Carry (netRef m c) k (atK m k c)
  | 0, _ => carry_entry (launchContents m c)
  | k + 1, hk => by
    have C := (carry_trip k (Nat.le_of_succ_le hk)).cond
    refine Carry.step (t := ⟨k, hk⟩) (netRef_cells m c) ?_ C
    refine (ctr_cond _).trans ((atK_ctr m c k).trans (funext fun _ => ?_))
    show Scf.iv 0#32 1#32 k = BitVec.ofNat 32 k
    simp [Scf.iv]

/-- Everything the program writes. -/
abbrev allW : List (Ref sig .tc) := preW ++ (condOps_W ++ (headW ++ (midW ++ (lastW ++ postW))))

/-- Before the first run of the condition, and before every later one, a buffer that nothing writes is as launched. -/
theorem trip_keep (r : Ref sig .tc) (hp : r ∉ preW) (hc : r ∉ condOps_W) (h0 : r ∉ headW) (h1 : r ∉ midW) (h2 : r ∉ lastW) :
    ∀ k, atK m k c (Proc.devRef .tc r) = m ((c.tc : Thread nD τ).loc r)
  | 0 => pre_keep _ r hp
  | k + 1 => (body_keep _ r h0 h1 h2).trans ((after_of_writes_sub _ _ condOps_writes hc).trans (trip_keep r hp hc h0 h1 h2 k))

/-- An argument is at the end as launched. -/
theorem final_keep (r : Ref sig .tc) (hr : r ∉ allW) :
    finalContents condOps preI bodyI postI 20 m c (Proc.devRef .tc r) = m ((c.tc : Thread nD τ).loc r) := by
  have split : ∀ {A B : List (Ref sig .tc)}, r ∉ A ++ B → r ∉ A ∧ r ∉ B := fun h =>
    ⟨fun h' => h (List.mem_append_left _ h'), fun h' => h (List.mem_append_right _ h')⟩
  obtain ⟨hp, hr⟩ := split hr
  obtain ⟨hc, hr⟩ := split hr
  obtain ⟨h0, hr⟩ := split hr
  obtain ⟨h1, hr⟩ := split hr
  obtain ⟨h2, hr⟩ := split hr
  exact (post_keep _ r hr).trans ((after_of_writes_sub _ _ condOps_writes hc).trans (trip_keep m c r hp hc h0 h1 h2 20))

/-- The last hidden and cell states. -/
theorem final_states :
    finalContents condOps preI bodyI postI 20 m c (Proc.devRef .tc main_v11_7) = ((netRef m c).state 20).1
    ∧ finalContents condOps preI bodyI postI 20 m c (Proc.devRef .tc main_v11_8) = ((netRef m c).state 20).2 :=
  have C := (carry_trip m c 20 le_rfl).cond
  ⟨(post_keep _ _ (by decide +kernel)).trans C.h, (post_keep _ _ (by decide +kernel)).trans C.c⟩

/-- The running sums of the output head. -/
theorem final_cum :
    finalContents condOps preI bodyI postI 20 m c (Proc.devRef .tc main_v18) = cumOf (netRef m c).outs := by
  have C := (carry_trip m c 20 le_rfl).cond
  have a : ∀ r, r ∉ preW → r ∉ condOps_W → r ∉ headW → r ∉ midW → r ∉ lastW →
      after condOps (atK m 20 c) (Proc.devRef .tc r) = m ((c.tc : Thread nD τ).loc r) := fun r hp hc h0 h1 h2 =>
    (after_of_writes_sub _ _ condOps_writes hc).trans (trip_keep m c r hp hc h0 h1 h2 20)
  refine (post_cum _).trans (congrArg cumOf (post_outs _ (netRef m c) (fun s n j => C.rows s s.isLt n j) ?_ ?_))
  · exact a _ (by decide +kernel) (by decide +kernel) (by decide +kernel) (by decide +kernel) (by decide +kernel)
  · exact a _ (by decide +kernel) (by decide +kernel) (by decide +kernel) (by decide +kernel) (by decide +kernel)

/-- Every fair run of the reference ends with the arguments as launched, every semaphore at zero, and the three results at the
    recurrence's running sums and last states. -/
theorem ref_values : θ_run (defs (F := Ideal)) (onTc (τ := τ) (main (F := Ideal))) ⟨m, fun _ => 0, ρ⟩ (fun r => (∀ c : Dev nD,
      (r.2.mem ((c.tc : Thread nD τ).loc main_v18) = cumOf (netRef m c).outs
      ∧ r.2.mem ((c.tc : Thread nD τ).loc main_v11_7) = ((netRef m c).state 20).1
      ∧ r.2.mem ((c.tc : Thread nD τ).loc main_v11_8) = ((netRef m c).state 20).2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run (defs (F := Ideal)) _ _).mono (fun r h => by
    refine ⟨fun c => ?_, sem_eq_zero_of_no_sems (by decide) r.2⟩
    have arg : ∀ b : Ref sig .tc, (Proc.devRef .tc b : DevRef τ sig).isScoped = false → b ∉ allW →
        r.2.mem ((c.tc : Thread nD τ).loc b) = m ((c.tc : Thread nD τ).loc b) := fun b hb hw => (h c b hb).trans (final_keep m c b hw)
    exact ⟨⟨(h c _ rfl).trans (final_cum m c), (h c _ rfl).trans (final_states m c).1, (h c _ rfl).trans (final_states m c).2⟩,
      arg _ rfl (by decide +kernel), arg _ rfl (by decide +kernel), arg _ rfl (by decide +kernel), arg _ rfl (by decide +kernel),
      arg _ rfl (by decide +kernel), arg _ rfl (by decide +kernel), arg _ rfl (by decide +kernel), arg _ rfl (by decide +kernel),
      arg _ rfl (by decide +kernel)⟩) (run_fold m ρ)

end Cert.Social
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Ref.Run
public import Idealize.ShloMosaic.Adequacy
public import Idealize.ShloMosaic.Init

@[expose] public section

noncomputable section

namespace Cert.Proof

open Idealize.ShloMosaic Idealize.ShloMosaic.TcCoe Idealize.SL.Sem Cert.Social

/-- The recurrences over equal arguments are equal. -/
theorem net_congr {x x' ww ww' wb wb' wi wi' wh wh' bi bi' bh bh' wp wp' bp bp'} (h0 : x = x') (h1 : ww = ww') (h2 : wb = wb') (h3 : wi = wi')
    (h4 : wh = wh') (h5 : bi = bi') (h6 : bh = bh') (h7 : wp = wp') (h8 : bp = bp') :
    net x ww wb wi wh bi bh wp bp = net x' ww' wb' wi' wh' bi' bh' wp' bp' := by
  rw [h0, h1, h2, h3, h4, h5, h6, h7, h8]

/-- The reference ends with its arguments as launched and its semaphores at zero. -/
theorem reference_frame : Cert.quiescent_ReferenceIdeal := fun m ρ _ =>
  (θ_run (Cert.ReferenceIdeal.defs (F := Ideal)) _ _).mono (fun _ h => ⟨fun c => (h.1 c).2, h.2⟩) (ref_values m ρ)

/-- The kernel and the reference, on equal arguments, end at the same three results: the recurrence's. -/
theorem same_values : Cert.algebraic_KernelIdeal_ReferenceIdeal := by
  intro m ρ m' ρ' _ ha
  have e : netOf m = netRef m' := funext fun c => by
    obtain ⟨h0, h1, h2, h3, h4, h5, h6, h7, h8⟩ := ha c
    exact net_congr h0.symm h1.symm h2.symm h3.symm h4.symm h5.symm h6.symm h7.symm h8.symm
  have k := run_values m ρ
  rw [e] at k
  refine ⟨fun c => cumOf (netRef m' c).outs, fun c => ((netRef m' c).state 20).1, fun c => ((netRef m' c).state 20).2, ?_, ?_⟩
  · exact (θ_run (Cert.KernelIdeal.defs (F := Ideal)) _ _).mono (fun _ h c =>
      ⟨(h.1 c).1.1, (h.1 c).1.2.1, (h.1 c).1.2.2, (h.1 c).2⟩) k
  · exact (θ_run (Cert.ReferenceIdeal.defs (F := Ideal)) _ _).mono (fun _ h c =>
      ⟨(h.1 c).1.1, (h.1 c).1.2.1, (h.1 c).1.2.2, (h.1 c).2⟩) (ref_values m' ρ')

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_values⟩

end Cert.Proof

end
